-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 128]⟩ : Shape).Idx, (Layout.block ⟨2, ![4096, 128]⟩ ⟨2, ![4096, 2048]⟩ 1 16 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 128]⟩ : Shape).Idx → _) i = 1#1 → r.2.mem ((c.tc : Thread Cert.KernelIdeal.nD Cert.KernelIdeal.τ).loc Cert.KernelIdeal.main_v1) i = (Layout.block ⟨2, ![4096, 128]⟩ ⟨2, ![4096, 2048]⟩ 1 16 c v0 : (⟨2, ![4096, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S256x4096 : Shape := ⟨2, ![256, 4096]⟩
abbrev S4096x128 : Shape := ⟨2, ![4096, 128]⟩
abbrev S4x256x4096 : Shape := ⟨3, ![4, 256, 4096]⟩
abbrev S4x2 : Shape := ⟨2, ![4, 2]⟩
abbrev S_ : Shape := ⟨0, ![]⟩
abbrev S1x1 : Shape := ⟨2, ![1, 1]⟩
abbrev S1x128x4096 : Shape := ⟨3, ![1, 128, 4096]⟩
abbrev S128x4096 : Shape := ⟨2, ![128, 4096]⟩
abbrev S256x128 : Shape := ⟨2, ![256, 128]⟩
abbrev S1x256x4096 : Shape := ⟨3, ![1, 256, 4096]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x128, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S4x256x4096, .f32⟩
  | .local _ .vmem, ⟨4, _⟩ => ⟨S4x256x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 3 35 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_53 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_52 : BitVec 32 := 1#32
  let v105 : BitVec 32 := Scalar.muli v68 c1_i32_52
  let v106 : BitVec 32 := Scalar.addi c0_i32_53 v105
  v106.toNat
def k0_dev2 (d0 : Dev nD) : Nat :=
  let c0_i32_56 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_55 : BitVec 32 := 1#32
  let v107 : BitVec 32 := Scalar.muli v103 c1_i32_55
  let v108 : BitVec 32 := Scalar.addi c0_i32_56 v107
  v108.toNat
def k0_dev3 (d0 : Dev nD) : Nat :=
  let c0_i32_63 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_62 : BitVec 32 := 1#32
  let v109 : BitVec 32 := Scalar.muli v103 c1_i32_62
  let v110 : BitVec 32 := Scalar.addi c0_i32_63 v109
  v110.toNat
def k0_dev4 (d0 : Dev nD) : Nat :=
  let c0_i32_74 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_73 : BitVec 32 := 1#32
  let v118 : BitVec 32 := Scalar.muli v68 c1_i32_73
  let v119 : BitVec 32 := Scalar.addi c0_i32_74 v118
  v119.toNat
def k0_dev5 (d0 : Dev nD) : Nat :=
  let c0_i32_85 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_84 : BitVec 32 := 1#32
  let v127 : BitVec 32 := Scalar.muli v103 c1_i32_84
  let v128 : BitVec 32 := Scalar.addi c0_i32_85 v127
  v128.toNat
def k0_dev6 (d0 : Dev nD) : Nat :=
  let c0_i32_95 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_94 : BitVec 32 := 1#32
  let v136 : BitVec 32 := Scalar.muli v68 c1_i32_94
  let v137 : BitVec 32 := Scalar.addi c0_i32_95 v136
  v137.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v152 : BitVec 32 := Scalar.muli v2 c256_i32
  let c0_i32_103 : BitVec 32 := 0#32
  let v153 : BitVec 32 := Scalar.addi v152 c0_i32_103
  let v154 : Index := Scalar.indexCast v153
  let c0_104 : Index := 0#32
  ![v154.toNat, 0]
def k0_dev7 (d0 : Dev nD) : Nat :=
  let c0_i32_174 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_173 : BitVec 32 := 1#32
  let v190 : BitVec 32 := Scalar.muli v103 c1_i32_173
  let v191 : BitVec 32 := Scalar.addi c0_i32_174 v190
  v191.toNat
def k0_dev8 (d0 : Dev nD) : Nat :=
  let c0_i32_186 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_185 : BitVec 32 := 1#32
  let v200 : BitVec 32 := Scalar.muli v68 c1_i32_185
  let v201 : BitVec 32 := Scalar.addi c0_i32_186 v200
  v201.toNat
def k0_dev9 (d0 : Dev nD) : Nat :=
  let c0_i32_209 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_208 : BitVec 32 := 1#32
  let v217 : BitVec 32 := Scalar.muli v103 c1_i32_208
  let v218 : BitVec 32 := Scalar.addi c0_i32_209 v217
  v218.toNat
def k0_dev10 (d0 : Dev nD) : Nat :=
  let c0_i32_232 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_231 : BitVec 32 := 1#32
  let v234 : BitVec 32 := Scalar.muli v68 c1_i32_231
  let v235 : BitVec 32 := Scalar.addi c0_i32_232 v234
  v235.toNat
def k0_off2 (d0 : Dev nD) (c1_i32_237 : BitVec 32) : Fin 2 → Nat :=
  let c4_i32_247 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let v244 : BitVec 32 := Scalar.subi v33 c1_i32_237
  let c16_i32_238 : BitVec 32 := 16#32
  let v245 : BitVec 32 := Scalar.addi v244 c16_i32_238
  let c16_i32_239 : BitVec 32 := 16#32
  let v246 : BitVec 32 := Scalar.remsi v245 c16_i32_239
  let c0_i32_241 : BitVec 32 := 0#32
  let v248 : BitVec 1 := Scalar.cmpi .sgt v246 c0_i32_241
  let v249 : BitVec 32 := Scalar.extui v248
  let c0_i32_242 : BitVec 32 := 0#32
  let v250 : BitVec 1 := Scalar.cmpi .slt v246 c0_i32_242
  let v251 : BitVec 32 := Scalar.extui v250
  let v252 : BitVec 32 := Scalar.subi v249 v251
  let c4_i32_240 : BitVec 32 := 4#32
  let c0_i32_243 : BitVec 32 := 0#32
  let v253 : BitVec 1 := Scalar.cmpi .sgt c4_i32_240 c0_i32_243
  let v254 : BitVec 32 := Scalar.extui v253
  let c0_i32_244 : BitVec 32 := 0#32
  let v255 : BitVec 1 := Scalar.cmpi .slt c4_i32_240 c0_i32_244
  let v256 : BitVec 32 := Scalar.extui v255
  let v257 : BitVec 32 := Scalar.subi v254 v256
  let v258 : BitVec 1 := Scalar.cmpi .ne v252 v257
  let v259 : BitVec 32 := Scalar.remsi v246 c4_i32_240
  let c0_i32_245 : BitVec 32 := 0#32
  let v260 : BitVec 1 := Scalar.cmpi .ne v259 c0_i32_245
  let v261 : BitVec 1 := Scalar.andi v258 v260
  let v247 : BitVec 32 := Scalar.divsi v246 c4_i32_240
  let c1_i32_246 : BitVec 32 := 1#32
  let v262 : BitVec 32 := Scalar.subi v247 c1_i32_246
  let v263 : BitVec 32 := Scalar.select v261 v262 v247
  let v264 : BitVec 32 := Scalar.muli c4_i32_247 v263
  let c4_i32_248 : BitVec 32 := 4#32
  let c0_i32_249 : BitVec 32 := 0#32
  let v265 : BitVec 1 := Scalar.cmpi .eq c4_i32_248 c0_i32_249
  let c1_i32_250 : BitVec 32 := 1#32
  let v266 : BitVec 32 := Scalar.select v265 c1_i32_250 c4_i32_248
  let v267 : BitVec 32 := Scalar.remsi v246 v266
  let c0_i32_252 : BitVec 32 := 0#32
  let v269 : BitVec 1 := Scalar.cmpi .slt v267 c0_i32_252
  let c0_i32_253 : BitVec 32 := 0#32
  let v270 : BitVec 1 := Scalar.cmpi .slt v266 c0_i32_253
  let v271 : BitVec 1 := Scalar.xori v269 v270
  let c0_i32_251 : BitVec 32 := 0#32
  let v268 : BitVec 1 := Scalar.cmpi .ne v267 c0_i32_251
  let v272 : BitVec 1 := Scalar.andi v271 v268
  let v273 : BitVec 32 := Scalar.addi v267 v266
  let v274 : BitVec 32 := Scalar.select v272 v273 v267
  let v275 : BitVec 32 := Scalar.subi v274 v263
  let c4_i32_254 : BitVec 32 := 4#32
  let v276 : BitVec 32 := Scalar.addi v275 c4_i32_254
  let c4_i32_255 : BitVec 32 := 4#32
  let v277 : BitVec 32 := Scalar.remsi v276 c4_i32_255
  let v278 : BitVec 32 := Scalar.addi v264 v277
  let c256_i32_261 : BitVec 32 := 256#32
  let v286 : BitVec 32 := Scalar.muli v278 c256_i32_261
  let c0_i32_262 : BitVec 32 := 0#32
  let v287 : BitVec 32 := Scalar.addi v286 c0_i32_262
  let v288 : Index := Scalar.indexCast v287
  let c0_263 : Index := 0#32
  ![v288.toNat, 0]
def k0_off3 (d0 : Dev nD) (c1_i32_264 : BitVec 32) : Fin 2 → Nat :=
  let c4_i32_274 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let v290 : BitVec 32 := Scalar.addi v33 c1_i32_264
  let c16_i32_265 : BitVec 32 := 16#32
  let v291 : BitVec 32 := Scalar.addi v290 c16_i32_265
  let c16_i32_266 : BitVec 32 := 16#32
  let v292 : BitVec 32 := Scalar.remsi v291 c16_i32_266
  let c0_i32_268 : BitVec 32 := 0#32
  let v294 : BitVec 1 := Scalar.cmpi .sgt v292 c0_i32_268
  let v295 : BitVec 32 := Scalar.extui v294
  let c0_i32_269 : BitVec 32 := 0#32
  let v296 : BitVec 1 := Scalar.cmpi .slt v292 c0_i32_269
  let v297 : BitVec 32 := Scalar.extui v296
  let v298 : BitVec 32 := Scalar.subi v295 v297
  let c4_i32_267 : BitVec 32 := 4#32
  let c0_i32_270 : BitVec 32 := 0#32
  let v299 : BitVec 1 := Scalar.cmpi .sgt c4_i32_267 c0_i32_270
  let v300 : BitVec 32 := Scalar.extui v299
  let c0_i32_271 : BitVec 32 := 0#32
  let v301 : BitVec 1 := Scalar.cmpi .slt c4_i32_267 c0_i32_271
  let v302 : BitVec 32 := Scalar.extui v301
  let v303 : BitVec 32 := Scalar.subi v300 v302
  let v304 : BitVec 1 := Scalar.cmpi .ne v298 v303
  let v305 : BitVec 32 := Scalar.remsi v292 c4_i32_267
  let c0_i32_272 : BitVec 32 := 0#32
  let v306 : BitVec 1 := Scalar.cmpi .ne v305 c0_i32_272
  let v307 : BitVec 1 := Scalar.andi v304 v306
  let v293 : BitVec 32 := Scalar.divsi v292 c4_i32_267
  let c1_i32_273 : BitVec 32 := 1#32
  let v308 : BitVec 32 := Scalar.subi v293 c1_i32_273
  let v309 : BitVec 32 := Scalar.select v307 v308 v293
  let v310 : BitVec 32 := Scalar.muli c4_i32_274 v309
  let c4_i32_275 : BitVec 32 := 4#32
  let c0_i32_276 : BitVec 32 := 0#32
  let v311 : BitVec 1 := Scalar.cmpi .eq c4_i32_275 c0_i32_276
  let c1_i32_277 : BitVec 32 := 1#32
  let v312 : BitVec 32 := Scalar.select v311 c1_i32_277 c4_i32_275
  let v313 : BitVec 32 := Scalar.remsi v292 v312
  let c0_i32_279 : BitVec 32 := 0#32
  let v315 : BitVec 1 := Scalar.cmpi .slt v313 c0_i32_279
  let c0_i32_280 : BitVec 32 := 0#32
  let v316 : BitVec 1 := Scalar.cmpi .slt v312 c0_i32_280
  let v317 : BitVec 1 := Scalar.xori v315 v316
  let c0_i32_278 : BitVec 32 := 0#32
  let v314 : BitVec 1 := Scalar.cmpi .ne v313 c0_i32_278
  let v318 : BitVec 1 := Scalar.andi v317 v314
  let v319 : BitVec 32 := Scalar.addi v313 v312
  let v320 : BitVec 32 := Scalar.select v318 v319 v313
  let v321 : BitVec 32 := Scalar.subi v320 v309
  let c4_i32_281 : BitVec 32 := 4#32
  let v322 : BitVec 32 := Scalar.addi v321 c4_i32_281
  let c4_i32_282 : BitVec 32 := 4#32
  let v323 : BitVec 32 := Scalar.remsi v322 c4_i32_282
  let v324 : BitVec 32 := Scalar.addi v310 v323
  let c256_i32_289 : BitVec 32 := 256#32
  let v332 : BitVec 32 := Scalar.muli v324 c256_i32_289
  let c0_i32_290 : BitVec 32 := 0#32
  let v333 : BitVec 32 := Scalar.addi v332 c0_i32_290
  let v334 : Index := Scalar.indexCast v333
  let c0_291 : Index := 0#32
  ![v334.toNat, 0]
def k0_dev11 (d0 : Dev nD) : Nat :=
  let c0_i32_340 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_339 : BitVec 32 := 1#32
  let v364 : BitVec 32 := Scalar.muli v68 c1_i32_339
  let v365 : BitVec 32 := Scalar.addi c0_i32_340 v364
  v365.toNat
def k0_dev12 (d0 : Dev nD) : Nat :=
  let c0_i32_365 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_364 : BitVec 32 := 1#32
  let v378 : BitVec 32 := Scalar.muli v103 c1_i32_364
  let v379 : BitVec 32 := Scalar.addi c0_i32_365 v378
  v379.toNat
def k0_dev13 (d0 : Dev nD) : Nat :=
  let c0_i32_372 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_371 : BitVec 32 := 1#32
  let v380 : BitVec 32 := Scalar.muli v103 c1_i32_371
  let v381 : BitVec 32 := Scalar.addi c0_i32_372 v380
  v381.toNat
def k0_dev14 (d0 : Dev nD) : Nat :=
  let c0_i32_384 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_383 : BitVec 32 := 1#32
  let v390 : BitVec 32 := Scalar.muli v68 c1_i32_383
  let v391 : BitVec 32 := Scalar.addi c0_i32_384 v390
  v391.toNat
def k0_dev15 (d0 : Dev nD) : Nat :=
  let c0_i32_408 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_407 : BitVec 32 := 1#32
  let v408 : BitVec 32 := Scalar.muli v103 c1_i32_407
  let v409 : BitVec 32 := Scalar.addi c0_i32_408 v408
  v409.toNat
def k0_dev16 (d0 : Dev nD) : Nat :=
  let c0_i32_432 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_431 : BitVec 32 := 1#32
  let v426 : BitVec 32 := Scalar.muli v68 c1_i32_431
  let v427 : BitVec 32 := Scalar.addi c0_i32_432 v426
  v427.toNat
def k0_dev17 (d0 : Dev nD) : Nat :=
  let c0_i32_540 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_539 : BitVec 32 := 1#32
  let v556 : BitVec 32 := Scalar.muli v68 c1_i32_539
  let v557 : BitVec 32 := Scalar.addi c0_i32_540 v556
  v557.toNat
def k0_dev18 (d0 : Dev nD) : Nat :=
  let c0_i32_565 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_564 : BitVec 32 := 1#32
  let v570 : BitVec 32 := Scalar.muli v103 c1_i32_564
  let v571 : BitVec 32 := Scalar.addi c0_i32_565 v570
  v571.toNat
def k0_dev19 (d0 : Dev nD) : Nat :=
  let c0_i32_573 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_572 : BitVec 32 := 1#32
  let v572 : BitVec 32 := Scalar.muli v103 c1_i32_572
  let v573 : BitVec 32 := Scalar.addi c0_i32_573 v572
  v573.toNat
def k0_dev20 (d0 : Dev nD) : Nat :=
  let c0_i32_585 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_584 : BitVec 32 := 1#32
  let v582 : BitVec 32 := Scalar.muli v68 c1_i32_584
  let v583 : BitVec 32 := Scalar.addi c0_i32_585 v582
  v583.toNat
def k0_dev21 (d0 : Dev nD) : Nat :=
  let c0_i32_609 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_608 : BitVec 32 := 1#32
  let v600 : BitVec 32 := Scalar.muli v103 c1_i32_608
  let v601 : BitVec 32 := Scalar.addi c0_i32_609 v600
  v601.toNat
def k0_dev22 (d0 : Dev nD) : Nat :=
  let c0_i32_633 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_632 : BitVec 32 := 1#32
  let v618 : BitVec 32 := Scalar.muli v68 c1_i32_632
  let v619 : BitVec 32 := Scalar.addi c0_i32_633 v618
  v619.toNat
def k0_dev23 (d0 : Dev nD) : Nat :=
  let c0_i32_741 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_740 : BitVec 32 := 1#32
  let v748 : BitVec 32 := Scalar.muli v68 c1_i32_740
  let v749 : BitVec 32 := Scalar.addi c0_i32_741 v748
  v749.toNat
def k0_dev24 (d0 : Dev nD) : Nat :=
  let c0_i32_766 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_765 : BitVec 32 := 1#32
  let v762 : BitVec 32 := Scalar.muli v103 c1_i32_765
  let v763 : BitVec 32 := Scalar.addi c0_i32_766 v762
  v763.toNat
def k0_dev25 (d0 : Dev nD) : Nat :=
  let c0_i32_778 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_777 : BitVec 32 := 1#32
  let v764 : BitVec 32 := Scalar.muli v103 c1_i32_777
  let v765 : BitVec 32 := Scalar.addi c0_i32_778 v764
  v765.toNat
def k0_dev26 (d0 : Dev nD) : Nat :=
  let c0_i32_790 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_789 : BitVec 32 := 1#32
  let v774 : BitVec 32 := Scalar.muli v68 c1_i32_789
  let v775 : BitVec 32 := Scalar.addi c0_i32_790 v774
  v775.toNat
def k0_dev27 (d0 : Dev nD) : Nat :=
  let c0_i32_814 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_813 : BitVec 32 := 1#32
  let v792 : BitVec 32 := Scalar.muli v103 c1_i32_813
  let v793 : BitVec 32 := Scalar.addi c0_i32_814 v792
  v793.toNat
def k0_dev28 (d0 : Dev nD) : Nat :=
  let c0_i32_838 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_837 : BitVec 32 := 1#32
  let v810 : BitVec 32 := Scalar.muli v68 c1_i32_837
  let v811 : BitVec 32 := Scalar.addi c0_i32_838 v810
  v811.toNat
def k0_dev29 (d0 : Dev nD) : Nat :=
  let c0_i32_947 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_946 : BitVec 32 := 1#32
  let v940 : BitVec 32 := Scalar.muli v68 c1_i32_946
  let v941 : BitVec 32 := Scalar.addi c0_i32_947 v940
  v941.toNat
def k0_dev30 (d0 : Dev nD) : Nat :=
  let c0_i32_972 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_971 : BitVec 32 := 1#32
  let v954 : BitVec 32 := Scalar.muli v103 c1_i32_971
  let v955 : BitVec 32 := Scalar.addi c0_i32_972 v954
  v955.toNat
def k0_dev31 (d0 : Dev nD) : Nat :=
  let c0_i32_984 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_983 : BitVec 32 := 1#32
  let v956 : BitVec 32 := Scalar.muli v103 c1_i32_983
  let v957 : BitVec 32 := Scalar.addi c0_i32_984 v956
  v957.toNat
def k0_dev32 (d0 : Dev nD) : Nat :=
  let c0_i32_996 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_995 : BitVec 32 := 1#32
  let v966 : BitVec 32 := Scalar.muli v68 c1_i32_995
  let v967 : BitVec 32 := Scalar.addi c0_i32_996 v966
  v967.toNat
def k0_dev33 (d0 : Dev nD) : Nat :=
  let c0_i32_1020 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_1019 : BitVec 32 := 1#32
  let v984 : BitVec 32 := Scalar.muli v103 c1_i32_1019
  let v985 : BitVec 32 := Scalar.addi c0_i32_1020 v984
  v985.toNat
def k0_dev34 (d0 : Dev nD) : Nat :=
  let c0_i32_1044 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_1043 : BitVec 32 := 1#32
  let v1002 : BitVec 32 := Scalar.muli v68 c1_i32_1043
  let v1003 : BitVec 32 := Scalar.addi c0_i32_1044 v1002
  v1003.toNat
def k0_dev35 (d0 : Dev nD) : Nat :=
  let c0_i32_1183 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_1182 : BitVec 32 := 1#32
  let v1144 : BitVec 32 := Scalar.muli v103 c1_i32_1182
  let v1145 : BitVec 32 := Scalar.addi c0_i32_1183 v1144
  v1145.toNat
def k0_dev36 (d0 : Dev nD) : Nat :=
  let c0_i32_1195 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_1194 : BitVec 32 := 1#32
  let v1154 : BitVec 32 := Scalar.muli v68 c1_i32_1194
  let v1155 : BitVec 32 := Scalar.addi c0_i32_1195 v1154
  v1155.toNat
def k0_dev37 (d0 : Dev nD) : Nat :=
  let c0_i32_1219 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_1218 : BitVec 32 := 1#32
  let v1172 : BitVec 32 := Scalar.muli v103 c1_i32_1218
  let v1173 : BitVec 32 := Scalar.addi c0_i32_1219 v1172
  v1173.toNat
def k0_dev38 (d0 : Dev nD) : Nat :=
  let c0_i32_1243 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_1242 : BitVec 32 := 1#32
  let v1190 : BitVec 32 := Scalar.muli v68 c1_i32_1242
  let v1191 : BitVec 32 := Scalar.addi c0_i32_1243 v1190
  v1191.toNat
def k0_dev39 (d0 : Dev nD) : Nat :=
  let c0_i32_1382 : BitVec 32 := 0#32
  let c4_i32_42 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_32 : BitVec 32 := 1#32
  let v69 : BitVec 32 := Scalar.addi v33 c1_i32_32
  let c16_i32_33 : BitVec 32 := 16#32
  let v70 : BitVec 32 := Scalar.addi v69 c16_i32_33
  let c16_i32_34 : BitVec 32 := 16#32
  let v71 : BitVec 32 := Scalar.remsi v70 c16_i32_34
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c4_i32_35 : BitVec 32 := 4#32
  let c0_i32_38 : BitVec 32 := 0#32
  let v78 : BitVec 1 := Scalar.cmpi .sgt c4_i32_35 c0_i32_38
  let v79 : BitVec 32 := Scalar.extui v78
  let c0_i32_39 : BitVec 32 := 0#32
  let v80 : BitVec 1 := Scalar.cmpi .slt c4_i32_35 c0_i32_39
  let v81 : BitVec 32 := Scalar.extui v80
  let v82 : BitVec 32 := Scalar.subi v79 v81
  let v83 : BitVec 1 := Scalar.cmpi .ne v77 v82
  let v84 : BitVec 32 := Scalar.remsi v71 c4_i32_35
  let c0_i32_40 : BitVec 32 := 0#32
  let v85 : BitVec 1 := Scalar.cmpi .ne v84 c0_i32_40
  let v86 : BitVec 1 := Scalar.andi v83 v85
  let v72 : BitVec 32 := Scalar.divsi v71 c4_i32_35
  let c1_i32_41 : BitVec 32 := 1#32
  let v87 : BitVec 32 := Scalar.subi v72 c1_i32_41
  let v88 : BitVec 32 := Scalar.select v86 v87 v72
  let v89 : BitVec 32 := Scalar.muli c4_i32_42 v88
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v71 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let v100 : BitVec 32 := Scalar.subi v99 v88
  let c4_i32_49 : BitVec 32 := 4#32
  let v101 : BitVec 32 := Scalar.addi v100 c4_i32_49
  let c4_i32_50 : BitVec 32 := 4#32
  let v102 : BitVec 32 := Scalar.remsi v101 c4_i32_50
  let v103 : BitVec 32 := Scalar.addi v89 v102
  let c1_i32_1381 : BitVec 32 := 1#32
  let v1332 : BitVec 32 := Scalar.muli v103 c1_i32_1381
  let v1333 : BitVec 32 := Scalar.addi c0_i32_1382 v1332
  v1333.toNat
def k0_dev40 (d0 : Dev nD) : Nat :=
  let c0_i32_1418 : BitVec 32 := 0#32
  let c4_i32_23 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c1_i32_13 : BitVec 32 := 1#32
  let v34 : BitVec 32 := Scalar.subi v33 c1_i32_13
  let c16_i32_14 : BitVec 32 := 16#32
  let v35 : BitVec 32 := Scalar.addi v34 c16_i32_14
  let c16_i32_15 : BitVec 32 := 16#32
  let v36 : BitVec 32 := Scalar.remsi v35 c16_i32_15
  let c0_i32_17 : BitVec 32 := 0#32
  let v38 : BitVec 1 := Scalar.cmpi .sgt v36 c0_i32_17
  let v39 : BitVec 32 := Scalar.extui v38
  let c0_i32_18 : BitVec 32 := 0#32
  let v40 : BitVec 1 := Scalar.cmpi .slt v36 c0_i32_18
  let v41 : BitVec 32 := Scalar.extui v40
  let v42 : BitVec 32 := Scalar.subi v39 v41
  let c4_i32_16 : BitVec 32 := 4#32
  let c0_i32_19 : BitVec 32 := 0#32
  let v43 : BitVec 1 := Scalar.cmpi .sgt c4_i32_16 c0_i32_19
  let v44 : BitVec 32 := Scalar.extui v43
  let c0_i32_20 : BitVec 32 := 0#32
  let v45 : BitVec 1 := Scalar.cmpi .slt c4_i32_16 c0_i32_20
  let v46 : BitVec 32 := Scalar.extui v45
  let v47 : BitVec 32 := Scalar.subi v44 v46
  let v48 : BitVec 1 := Scalar.cmpi .ne v42 v47
  let v49 : BitVec 32 := Scalar.remsi v36 c4_i32_16
  let c0_i32_21 : BitVec 32 := 0#32
  let v50 : BitVec 1 := Scalar.cmpi .ne v49 c0_i32_21
  let v51 : BitVec 1 := Scalar.andi v48 v50
  let v37 : BitVec 32 := Scalar.divsi v36 c4_i32_16
  let c1_i32_22 : BitVec 32 := 1#32
  let v52 : BitVec 32 := Scalar.subi v37 c1_i32_22
  let v53 : BitVec 32 := Scalar.select v51 v52 v37
  let v54 : BitVec 32 := Scalar.muli c4_i32_23 v53
  let c4_i32_24 : BitVec 32 := 4#32
  let c0_i32_25 : BitVec 32 := 0#32
  let v55 : BitVec 1 := Scalar.cmpi .eq c4_i32_24 c0_i32_25
  let c1_i32_26 : BitVec 32 := 1#32
  let v56 : BitVec 32 := Scalar.select v55 c1_i32_26 c4_i32_24
  let v57 : BitVec 32 := Scalar.remsi v36 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : BitVec 32 := Scalar.subi v64 v53
  let c4_i32_30 : BitVec 32 := 4#32
  let v66 : BitVec 32 := Scalar.addi v65 c4_i32_30
  let c4_i32_31 : BitVec 32 := 4#32
  let v67 : BitVec 32 := Scalar.remsi v66 c4_i32_31
  let v68 : BitVec 32 := Scalar.addi v54 v67
  let c1_i32_1417 : BitVec 32 := 1#32
  let v1358 : BitVec 32 := Scalar.muli v68 c1_i32_1417
  let v1359 : BitVec 32 := Scalar.addi c0_i32_1418 v1358
  v1359.toNat
def k0_off4 (d0 : Dev nD) (c0_i32_1515 : BitVec 32) : Fin 2 → Nat :=
  let c4_i32_1499 : BitVec 32 := 4#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.muli c4_i32_5 v19
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v31 : BitVec 32 := Scalar.addi v30 v19
  let c4_i32_12 : BitVec 32 := 4#32
  let v32 : BitVec 32 := Scalar.remsi v31 c4_i32_12
  let v33 : BitVec 32 := Scalar.addi v20 v32
  let c8_i32 : BitVec 32 := 8#32
  let v1468 : BitVec 32 := Scalar.addi v33 c8_i32
  let c16_i32_1490 : BitVec 32 := 16#32
  let v1469 : BitVec 32 := Scalar.addi v1468 c16_i32_1490
  let c16_i32_1491 : BitVec 32 := 16#32
  let v1470 : BitVec 32 := Scalar.remsi v1469 c16_i32_1491
  let c0_i32_1493 : BitVec 32 := 0#32
  let v1472 : BitVec 1 := Scalar.cmpi .sgt v1470 c0_i32_1493
  let v1473 : BitVec 32 := Scalar.extui v1472
  let c0_i32_1494 : BitVec 32 := 0#32
  let v1474 : BitVec 1 := Scalar.cmpi .slt v1470 c0_i32_1494
  let v1475 : BitVec 32 := Scalar.extui v1474
  let v1476 : BitVec 32 := Scalar.subi v1473 v1475
  let c4_i32_1492 : BitVec 32 := 4#32
  let c0_i32_1495 : BitVec 32 := 0#32
  let v1477 : BitVec 1 := Scalar.cmpi .sgt c4_i32_1492 c0_i32_1495
  let v1478 : BitVec 32 := Scalar.extui v1477
  let c0_i32_1496 : BitVec 32 := 0#32
  let v1479 : BitVec 1 := Scalar.cmpi .slt c4_i32_1492 c0_i32_1496
  let v1480 : BitVec 32 := Scalar.extui v1479
  let v1481 : BitVec 32 := Scalar.subi v1478 v1480
  let v1482 : BitVec 1 := Scalar.cmpi .ne v1476 v1481
  let v1483 : BitVec 32 := Scalar.remsi v1470 c4_i32_1492
  let c0_i32_1497 : BitVec 32 := 0#32
  let v1484 : BitVec 1 := Scalar.cmpi .ne v1483 c0_i32_1497
  let v1485 : BitVec 1 := Scalar.andi v1482 v1484
  let v1471 : BitVec 32 := Scalar.divsi v1470 c4_i32_1492
  let c1_i32_1498 : BitVec 32 := 1#32
  let v1486 : BitVec 32 := Scalar.subi v1471 c1_i32_1498
  let v1487 : BitVec 32 := Scalar.select v1485 v1486 v1471
  let v1488 : BitVec 32 := Scalar.muli c4_i32_1499 v1487
  let c4_i32_1500 : BitVec 32 := 4#32
  let c0_i32_1501 : BitVec 32 := 0#32
  let v1489 : BitVec 1 := Scalar.cmpi .eq c4_i32_1500 c0_i32_1501
  let c1_i32_1502 : BitVec 32 := 1#32
  let v1490 : BitVec 32 := Scalar.select v1489 c1_i32_1502 c4_i32_1500
  let v1491 : BitVec 32 := Scalar.remsi v1470 v1490
  let c0_i32_1504 : BitVec 32 := 0#32
  let v1493 : BitVec 1 := Scalar.cmpi .slt v1491 c0_i32_1504
  let c0_i32_1505 : BitVec 32 := 0#32
  let v1494 : BitVec 1 := Scalar.cmpi .slt v1490 c0_i32_1505
  let v1495 : BitVec 1 := Scalar.xori v1493 v1494
  let c0_i32_1503 : BitVec 32 := 0#32
  let v1492 : BitVec 1 := Scalar.cmpi .ne v1491 c0_i32_1503
  let v1496 : BitVec 1 := Scalar.andi v1495 v1492
  let v1497 : BitVec 32 := Scalar.addi v1491 v1490
  let v1498 : BitVec 32 := Scalar.select v1496 v1497 v1491
  let v1499 : BitVec 32 := Scalar.subi v1498 v1487
  let c4_i32_1506 : BitVec 32 := 4#32
  let v1500 : BitVec 32 := Scalar.addi v1499 c4_i32_1506
  let c4_i32_1507 : BitVec 32 := 4#32
  let v1501 : BitVec 32 := Scalar.remsi v1500 c4_i32_1507
  let v1502 : BitVec 32 := Scalar.addi v1488 v1501
  let c256_i32_1514 : BitVec 32 := 256#32
  let v1510 : BitVec 32 := Scalar.muli v1502 c256_i32_1514
  let v1511 : BitVec 32 := Scalar.addi v1510 c0_i32_1515
  let v1512 : Index := Scalar.indexCast v1511
  let c0_1516 : Index := 0#32
  ![v1512.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Plan.lean ====
/-
The kernel's protocol as data: the ring's neighbours, the body as a list of operations, the tokens each operation
takes and gives, and the check that the list can be run from the tokens a device starts with.
-/
module

public import proofs.«01_k».proof.Proof.Gen.KernelIdeal

@[expose] public section

namespace Cert.Gather

open Idealize.ShloMosaic Cert.KernelIdeal

/-! ## The ring -/

/-- A device's position along the ring, which snakes through the four groups of four devices. -/
def ringPos (c : Dev nD) : ℕ := 4 * (c.val / 4) + (c.val % 4 + c.val / 4) % 4

/-- The device at a position, counted modulo sixteen. -/
def ringDev (v : ℕ) : Dev nD :=
  ⟨4 * (v % 16 / 4) + (v % 16 % 4 + 4 - v % 16 / 4) % 4, by
    have h1 : v % 16 < 16 := Nat.mod_lt _ (by decide)
    have h2 : (v % 16 % 4 + 4 - v % 16 / 4) % 4 < 4 := Nat.mod_lt _ (by decide)
    show _ < 16
    omega⟩

/-- The neighbour a device sends to in direction `d` (`true`: up the ring, `false`: down). -/
def nbr (d : Bool) (c : Dev nD) : Dev nD := ringDev (ringPos c + bif d then 1 else 15)

/-- The device whose block has come `i` hops in direction `d` when it is at `c`. -/
def origin (d : Bool) (i : ℕ) (c : Dev nD) : Dev nD := ringDev (ringPos c + bif d then 16 - i else i)

theorem nbr_nbr : ∀ (d : Bool) (c : Dev nD), nbr d (nbr (!d) c) = c := by decide
theorem nbr_nbr' : ∀ (d : Bool) (c : Dev nD), nbr (!d) (nbr d c) = c := by decide
theorem origin_zero : ∀ (d : Bool) (c : Dev nD), origin d 0 c = c := by decide
theorem origin_succ_fin : ∀ (i : Fin 8) (d : Bool) (c : Dev nD), origin d (i.val + 1) (nbr d c) = origin d i.val c := by decide
theorem origin_succ {i : ℕ} (hi : i < 8) (d : Bool) (c : Dev nD) : origin d (i + 1) (nbr d c) = origin d i c :=
  origin_succ_fin ⟨i, hi⟩ d c

/-- The neighbour map as a permutation of the mesh. -/
def nbrEquiv (d : Bool) : Dev nD ≃ Dev nD where
  toFun := nbr d
  invFun := nbr (!d)
  left_inv := nbr_nbr' d
  right_inv := nbr_nbr d

/-! ## The operations -/

/-- The operations of the body, `d` a direction, `j` a hop, `p` a half of a block, `k` a credit. -/
inductive Op where
  /-- tell the device that will send in direction `d` to this one that this one is ready -/
  | sigBar (d : Bool)
  /-- wait for both neighbours -/
  | waitBar
  /-- start hop `j` of half `p` -/
  | send (d : Bool) (j : ℕ) (p : Fin 2)
  /-- wait until the source of that hop is read -/
  | waitS (d : Bool) (j : ℕ) (p : Fin 2)
  /-- wait until the same hop of the device before has landed here -/
  | waitR (d : Bool) (j : ℕ) (p : Fin 2)
  /-- hand the device before a slot back -/
  | sigCr (d : Bool) (k : ℕ)
  /-- wait for a slot of the device after -/
  | waitCr (d : Bool) (k : ℕ)
  /-- multiply the own block -/
  | compX
  /-- multiply the block that has come `j` hops -/
  | compS (d : Bool) (j : ℕ)
  /-- multiply the half block that has come all eight hops -/
  | compH (d : Bool)
  deriving DecidableEq

/-- Whether half `p` travels on hop `j`: the last hop carries one half each way. -/
def has (d : Bool) (j : ℕ) (p : Fin 2) : Bool := decide (j < 7) || (decide (j = 7) && decide (p = bif d then 0 else 1))

/-- The halves travelling on hop `j`. -/
def halves (d : Bool) (j : ℕ) : List (Fin 2) := [0, 1].filter (has d j)

/-- The list if the condition holds. -/
def onlyIf (b : Bool) (l : List Op) : List Op := bif b then l else []

/-- One trip of the body's loop. -/
def trip (j : ℕ) : List Op :=
  onlyIf (decide (1 ≤ j)) ((halves true (j - 1)).map (.waitS true (j - 1)))
  ++ onlyIf (decide (2 ≤ j ∧ j ≤ 5)) [.sigCr true (j - 1)]
  ++ onlyIf (decide (1 ≤ j)) ((halves false (j - 1)).map (.waitS false (j - 1)))
  ++ onlyIf (decide (2 ≤ j ∧ j ≤ 5)) [.sigCr false (j - 1)]
  ++ onlyIf (decide (4 ≤ j)) [.waitCr true (j - 3), .waitCr false (j - 3)]
  ++ onlyIf (has true j 0) [.send true j 0] ++ onlyIf (has false j 0) [.send false j 0]
  ++ onlyIf (decide (1 ≤ j)) [.waitR true (j - 1) 1] ++ onlyIf (has true j 1) [.send true j 1]
  ++ onlyIf (decide (1 ≤ j)) [.waitR false (j - 1) 1] ++ onlyIf (has false j 1) [.send false j 1]
  ++ (bif decide (j = 0) then [.compX] else [.compS true j, .compS false j])
  ++ [.waitR true j 0] ++ onlyIf (decide (j = 7)) [.compH true] ++ onlyIf (has false j 0) [.waitR false j 0]

/-- The body after it has read the device's number. -/
def body : List Op :=
  [.sigBar true, .sigBar false, .waitBar] ++ (List.range 8).flatMap trip
    ++ [.waitR false 7 1, .compH false, .waitS true 7 0, .waitS false 7 1]

/-- Whether the operation pays a unit or a landing on another device. -/
def Op.pays : Op → Bool
  | .sigBar _ => true
  | .send _ _ _ => true
  | .sigCr _ _ => true
  | _ => false

/-- The paying operations in the order of the body. -/
def payOps : List Op := body.filter Op.pays

/-- The place of a paying operation among them, from one. -/
def time (o : Op) : ℕ := payOps.idxOf o + 1

/-- The latest payment a wait waits for: it may be waited for once as many are made. -/
def Op.level : Op → ℕ
  | .waitBar => 2
  | .waitR d j p => time (.send d j p)
  | .waitCr d k => time (.sigCr d k)
  | _ => 0

/-! ## The tokens -/

/-- What a device holds between operations. -/
inductive Res where
  /-- the right to signal the barrier of the device before -/
  | btok (d : Bool)
  /-- the place at the own barrier, before and after -/
  | bpos
  | bdone
  /-- the own barrier's credit -/
  | bcred
  /-- a half slot of the own landing buffer, nobody else's yet -/
  | own (d : Bool) (s : Fin 4) (p : Fin 2)
  /-- the rights to both ends of a hop -/
  | tok (d : Bool) (j : ℕ) (p : Fin 2)
  /-- the credit of a landing here, and of a source read here -/
  | rcred (d : Bool) (j : ℕ) (p : Fin 2)
  | scred (d : Bool) (j : ℕ) (p : Fin 2)
  /-- the place at the source's and at the landing's semaphore: hop `j` is next -/
  | spos (d : Bool) (j : ℕ) (p : Fin 2)
  | rpos (d : Bool) (j : ℕ) (p : Fin 2)
  /-- the half slot on the device after where hop `j` lands -/
  | peer (d : Bool) (j : ℕ) (p : Fin 2)
  /-- the two shares of the half block that has come `j` hops -/
  | lent (d : Bool) (j : ℕ) (p : Fin 2)
  | keep (d : Bool) (j : ℕ) (p : Fin 2)
  /-- the kept share of the own block, the weights, the result after `i` products -/
  | xkeep
  | wbuf
  | out (i : ℕ)
  /-- the credits handed back: the right to hand credit `k`, the slot's record, what has been handed so far -/
  | ctok (d : Bool) (k : ℕ)
  | rdr (d : Bool) (k : ℕ)
  | hd (d : Bool) (k : ℕ)
  /-- the credits received: the place, the credit, the right to the slot -/
  | cpos (d : Bool) (k : ℕ)
  | ccred (d : Bool) (k : ℕ)
  | wtok (d : Bool) (k : ℕ)
  deriving DecidableEq

/-- The pairs of a slot (or a hop modulo four) and a half. -/
def quads : List (Fin 4 × Fin 2) := [(0, 0), (0, 1), (1, 0), (1, 1), (2, 0), (2, 1), (3, 0), (3, 1)]

/-- The number of the product an operation makes. -/
def Op.nth : Op → ℕ
  | .compS d j => bif d then 2 * j - 1 else 2 * j
  | .compH d => bif d then 15 else 16
  | _ => 0

/-- What an operation takes, besides what it leaves as it is. -/
def Op.pre : Op → List Res
  | .sigBar d => .btok d :: quads.map fun x => .own d x.1 x.2
  | .waitBar => [.bpos, .bcred]
  | .send d j p => [.tok d j p, .peer d j p, .lent d j p, .spos d j p]
  | .waitS d j p => [.scred d j p, .spos d j p]
  | .waitR d j p => [.rcred d j p, .rpos d j p]
  | .sigCr d k => [.ctok d k, .rdr d k, .hd d (k - 1)] ++ (halves d (k + 3)).flatMap fun p => [.lent d k p, .keep d k p, .rpos d (k + 3) p]
  | .waitCr d k => [.cpos d (k - 1), .ccred d k, .wtok d k]
  | .compX => [.xkeep, .wbuf, .out 0]
  | .compS d j => [.keep d j 0, .keep d j 1, .wbuf, .out (Op.compS d j).nth]
  | .compH d => [.keep d 8 (bif d then 0 else 1), .wbuf, .out (Op.compH d).nth]

/-- What an operation gives. -/
def Op.post : Op → List Res
  | .sigBar _ => []
  | .waitBar => .bdone :: ([true, false].flatMap fun d => quads.map fun x => .peer d x.1 x.2)
  | .send d j p => [.scred d j p, .spos d j p]
  | .waitS d j p => [.spos d (j + 4) p, .lent d j p]
  | .waitR d j p => [.rpos d (j + 4) p, .lent d (j + 1) p, .keep d (j + 1) p]
  | .sigCr d k => .hd d k :: (halves d (k + 3)).map fun p => .rpos d (k + 3) p
  | .waitCr d k => .cpos d k :: (halves d (k + 3)).map fun p => .peer d (k + 3) p
  | .compX => [.xkeep, .wbuf, .out 1]
  | .compS d j => [.keep d j 0, .keep d j 1, .wbuf, .out ((Op.compS d j).nth + 1)]
  | .compH d => [.keep d 8 (bif d then 0 else 1), .wbuf, .out ((Op.compH d).nth + 1)]

/-- The products in the order of the body. -/
def Op.isComp : Op → Bool
  | .compX => true
  | .compS _ _ => true
  | .compH _ => true
  | _ => false
def comps : List Op := body.filter Op.isComp

/-- The indices at which the operations are as the rules below describe them. -/
def Op.fits : Op → Bool
  | .send d j p => has d j p
  | .waitS d j p => has d j p
  | .waitR d j p => has d j p
  | .sigCr _ k => decide (1 ≤ k ∧ k ≤ 4)
  | .waitCr _ k => decide (1 ≤ k ∧ k ≤ 4)
  | .compX => decide (comps[0]? = some .compX)
  | .compS d j => decide (1 ≤ j ∧ j ≤ 7) && decide (comps[(Op.compS d j).nth]? = some (.compS d j))
  | .compH d => decide (comps[(Op.compH d).nth]? = some (.compH d))
  | _ => true

/-! ## Running the list -/

/-- Take the first list's tokens out of the second. -/
def takeAll : List Res → List Res → Option (List Res)
  | [], l => some l
  | r :: rs, l => if r ∈ l then takeAll rs (l.erase r) else none

/-- Whether an operation may be made after `n` payments. -/
def Op.okAt (o : Op) (n : ℕ) : Bool :=
  o.fits && (bif o.pays then decide (time o = n + 1) && decide (payOps.drop n = o :: payOps.drop (n + 1)) else decide (o.level ≤ n))

/-- The payments made after the operation. -/
def Op.after (o : Op) (n : ℕ) : ℕ := bif o.pays then n + 1 else n

/-- Run a list of operations over the payments made and the tokens held. -/
def run : List Op → ℕ → List Res → Option (ℕ × List Res)
  | [], n, l => some (n, l)
  | o :: os, n, l =>
    if o.okAt n then
      match takeAll o.pre l with
      | some l' => run os (o.after n) (o.post ++ l')
      | none => none
    else none

/-- Both directions. -/
def dirs : List Bool := [true, false]

/-- All hops of a direction. -/
def hops (d : Bool) : List (ℕ × Fin 2) := (List.range 8).flatMap fun j => (halves d j).map fun p => (j, p)

/-- The tokens of a device at the start. -/
def start : List Res :=
  [.bpos, .bcred, .xkeep, .wbuf, .out 0]
  ++ dirs.flatMap fun d =>
    [.btok d, .cpos d 0, .hd d 0, .lent d 0 0, .lent d 0 1]
    ++ quads.map (fun x => .own d x.1 x.2) ++ quads.map (fun x => .spos d x.1 x.2) ++ quads.map (fun x => .rpos d x.1 x.2)
    ++ (hops d).map (fun x => .tok d x.1 x.2) ++ (hops d).map (fun x => .rcred d x.1 x.2)
    ++ [1, 2, 3, 4].map (fun k => .ctok d k) ++ [1, 2, 3, 4].map (fun k => .rdr d k)
    ++ [1, 2, 3, 4].map (fun k => .ccred d k) ++ [1, 2, 3, 4].map (fun k => .wtok d k)

/-- The hop whose half a slot of the landing buffer is left with. -/
def lastIn (d : Bool) (x : Fin 4 × Fin 2) : ℕ := bif decide (x.1 = 0) then (bif has d 7 x.2 then 8 else 4) else x.1 + 4

/-- The hop that would be next at the semaphores when the body ends. -/
def lastHop (d : Bool) (x : Fin 4 × Fin 2) : ℕ := bif has d (x.1 + 4) x.2 then x.1 + 8 else x.1 + 4

/-- The tokens of a device at the end. -/
def finish : List Res :=
  [.bdone, .xkeep, .wbuf, .out 17]
  ++ dirs.flatMap fun d =>
    [.cpos d 4, .hd d 4, .lent d 0 0, .lent d 0 1]
    ++ quads.flatMap (fun x => [.lent d (lastIn d x) x.2, .keep d (lastIn d x) x.2])
    ++ quads.map (fun x => .spos d (lastHop d x) x.2) ++ quads.map (fun x => .rpos d (lastHop d x) x.2)

/-- The check: the body runs from `start` with all forty payments made, and what is left is `finish`. -/
def plays : Bool :=
  match run body 0 start with
  | some (n, l) => decide (n = payOps.length) && decide (takeAll finish l = some [])
  | none => false

end Cert.Gather
-- ==== Proof.Code.lean ====
/-
The kernel's body as the list of operations: the views, semaphores and operations the list names, and the equality
of the printed body with the list.
-/
module

public import proofs.«01_k».proof.Proof.Plan
public import proofs.«01_k».proof.Proof.Gen.KernelIdeal.Skeleton

@[expose] public section

set_option maxRecDepth 65536

noncomputable section

namespace Cert.Gather

open Idealize.ShloMosaic Idealize.ShloMosaic.TcCoe Cert.KernelIdeal Cert.KernelIdeal.Gen
open Idealize.SL.Sem

variable {F : FTy → Type} [FloatOps F]

/-! ## Views and semaphores -/

/-- The own block, the weights, the result and the two landing buffers in the core's memory. -/
abbrev xM : Memref sig .tc .vmem S256x4096 .f32 := win0_0.stage 0
abbrev wM : Memref sig .tc .vmem S4096x128 .f32 := win0_1.stage 0
abbrev oM : Memref sig .tc .vmem S4096x128 .f32 := win0_2.stage 0
def commM : Bool → Memref sig .tc .vmem S4x256x4096 .f32
  | true => Memref.whole cc0_scratch0
  | false => Memref.whole cc0_scratch1

theorem slot_inb (s : Fin 4) (p : Fin 2) : ∀ a, (![s.val, 128 * p.val, 0] : Fin 3 → ℕ) a + S1x128x4096.size a ≤ S4x256x4096.size a := by
  revert s p; decide
theorem half_inb (p : Fin 2) : ∀ a, (![128 * p.val, 0] : Fin 2 → ℕ) a + S128x4096.size a ≤ S256x4096.size a := by
  revert p; decide
theorem slotWhole_inb (s : Fin 4) : ∀ a, (![s.val, 0, 0] : Fin 3 → ℕ) a + S1x256x4096.size a ≤ S4x256x4096.size a := by
  revert s; decide
theorem sem_inb (s : Fin 4) (p : Fin 2) : ∀ a, (![s.val, p.val] : Fin 2 → ℕ) a + S1x1.size a ≤ S4x2.size a := by
  revert s p; decide

/-- Half `p` of slot `s` of a landing buffer. -/
def slotM (d : Bool) (s : Fin 4) (p : Fin 2) : Memref sig .tc .vmem S128x4096 .f32 :=
  ((commM d).slice (Rect.unit (s := S4x256x4096) ![s.val, 128 * p.val, 0] S1x128x4096.size (slot_inb s p)) (fun _ => rfl)).squeeze S128x4096 squeezes_S1x128x4096_S128x4096

/-- Half `p` of the own block. -/
def halfM (p : Fin 2) : Memref sig .tc .vmem S128x4096 .f32 :=
  xM.slice (Rect.unit (s := S256x4096) ![128 * p.val, 0] S128x4096.size (half_inb p)) (fun _ => rfl)

/-- The slot of the block that has come `j` hops. -/
def slotOf (j : ℕ) : Fin 4 := ⟨j % 4, Nat.mod_lt _ (by decide)⟩

/-- The source of hop `j`. -/
def srcM (d : Bool) (j : ℕ) (p : Fin 2) : Memref sig .tc .vmem S128x4096 .f32 :=
  match j with
  | 0 => halfM p
  | j + 1 => slotM d (slotOf (j + 1)) p

/-- The place where hop `j` lands. -/
abbrev dstM (d : Bool) (j : ℕ) (p : Fin 2) : Memref sig .tc .vmem S128x4096 .f32 := slotM d (slotOf (j + 1)) p

/-- One semaphore of a table. -/
def semAt (a : DmaSems sig S4x2) (s : Fin 4) (p : Fin 2) : DmaSem sig :=
  ((a.slice (Rect.unit (s := S4x2) ![s.val, p.val] S1x1.size (sem_inb s p))).squeeze S_ squeezes_S1x1_S_).sem

/-- The semaphores of the hops equal to `q` modulo four: at the source and at the landing. -/
def sndSem (d : Bool) (q : Fin 4) (p : Fin 2) : DmaSem sig := semAt (match d with | true => cc0_scratch2 | false => cc0_scratch4) q p
def rcvSem (d : Bool) (q : Fin 4) (p : Fin 2) : DmaSem sig := semAt (match d with | true => cc0_scratch3 | false => cc0_scratch5) (slotOf (q.val + 1)) p
/-- The credit semaphores and the barrier's. -/
def crSem : Bool → Sem sig
  | true => cc0_scratch6.sem
  | false => cc0_scratch7.sem
def barSem : Sem sig := (SemArray.scalar (sig.barrier 0 rfl) : Sems sig S_).sem

theorem srcM_wordExact (d : Bool) (j : ℕ) (p : Fin 2) : (srcM d j p).view.WordExact := by
  cases j with
  | zero => exact View.wordExact_bits rfl
  | succ j => exact (View.wordExact_bits rfl).reshape _ _
theorem slotM_wordExact (d : Bool) (s : Fin 4) (p : Fin 2) : (slotM d s p).view.WordExact := (View.wordExact_bits rfl).reshape _ _

/-! ## The neighbours as the body computes them -/

/-- The neighbour as computed for the sends. -/
def peerDev (d : Bool) (c : Dev nD) : Dev nD :=
  match d with
  | true => ⟨k0_dev3 c, k0_dev3_lt c⟩
  | false => ⟨k0_dev4 c, k0_dev4_lt c⟩

theorem peerDev_eq : ∀ (d : Bool) (c : Dev nD), peerDev d c = nbr d c := by decide +kernel

/-! ## The operations -/

/-- The rows of the result the block come `j` hops is multiplied into. -/
def stripOff (d : Bool) (j : Fin 7) (c : Dev nD) : Fin 2 → ℕ :=
  match d with
  | true => k0_off2 c (BitVec.ofNat 32 (1 + j.val))
  | false => k0_off3 c (BitVec.ofNat 32 (1 + j.val))
theorem stripOff_inb (d : Bool) (j : Fin 7) (c : Dev nD) : ∀ a, stripOff d j c a + S256x128.size a ≤ S4096x128.size a := by
  cases d
  · exact k0_off3_inb c j
  · exact k0_off2_inb c j
def lastHalf (d : Bool) : Fin 2 := match d with | true => 0 | false => 1
def halfOff (d : Bool) (c : Dev nD) : Fin 2 → ℕ := k0_off4 c (BitVec.ofNat 32 (128 * (lastHalf d).val))
theorem halfOff_inb (d : Bool) (c : Dev nD) : ∀ a, halfOff d c a + S128x128.size a ≤ S4096x128.size a := k0_off4_inb c (lastHalf d)

/-- The rectangles of the products. -/
abbrev ownRect (c : Dev nD) : Rect S4096x128 := Rect.unit (s := S4096x128) (k0_off1 c) S256x128.size (k0_off1_inb c)
abbrev stripRect (d : Bool) (j : Fin 7) (c : Dev nD) : Rect S4096x128 := Rect.unit (s := S4096x128) (stripOff d j c) S256x128.size (stripOff_inb d j c)
abbrev halfRect (d : Bool) (c : Dev nD) : Rect S4096x128 := Rect.unit (s := S4096x128) (halfOff d c) S128x128.size (halfOff_inb d c)
abbrev xRect : Rect S256x4096 := Rect.unit (s := S256x4096) ![0, 0] S256x4096.size inb_S256x4096_S256x4096_0_0
abbrev wRect : Rect S4096x128 := Rect.unit (s := S4096x128) ![0, 0] S4096x128.size inb_S4096x128_S4096x128_0_0
abbrev slotRect (s : Fin 4) : Rect S4x256x4096 := Rect.unit (s := S4x256x4096) ![s.val, 0, 0] S1x256x4096.size (slotWhole_inb s)
abbrev pieceRect (s : Fin 4) (p : Fin 2) : Rect S4x256x4096 := Rect.unit (s := S4x256x4096) ![s.val, 128 * p.val, 0] S1x128x4096.size (slot_inb s p)

/-- The hop count of a slot product as the printed offsets number it. -/
def stripNo (j : ℕ) : Fin 7 := ⟨(j - 1) % 7, Nat.mod_lt _ (by decide)⟩

/-- An operation followed by the rest of the body. -/
def den (c : Dev nD) (o : Op) (k : Prog (TpuEff nD τ sig (Elt F) Λ₀ .tc) PUnit) : Prog (TpuEff nD τ sig (Elt F) Λ₀ .tc) PUnit :=
  match o with
  | .sigBar d => .op (.semSignal (Dev.tc (peerDev (!d) c)) barSem 1) fun _ => k
  | .waitBar => .op (.semWait barSem 2) fun _ => k
  | .send d j p => .op (.enqueueDma (srcM d j p) (.remote (Dev.tc (peerDev d c)) (dstM d j p) (.dma (sndSem d (slotOf j) p))) (.dma (rcvSem d (slotOf j) p))
      (srcM_wordExact d j p) (slotM_wordExact d _ p) ⟨⟨rfl, Or.inl rfl⟩, trivial⟩) fun _ => k
  | .waitS d j p => .op (.waitDma2 (sndSem d (slotOf j) p) (dstM d j p) (srcM d j p) (slotM_wordExact d _ p) (srcM_wordExact d j p)) fun _ => k
  | .waitR d j p => .op (.waitDma2 (rcvSem d (slotOf j) p) (srcM d j p) (dstM d j p) (srcM_wordExact d j p) (slotM_wordExact d _ p)) fun _ => k
  | .sigCr d _ => .op (.semSignal (Dev.tc (peerDev (!d) c)) (crSem d) 1) fun _ => k
  | .waitCr d _ => .op (.semWait (crSem d) 1) fun _ => k
  | .compX => .op (.load xM xRect.toLoadRect (View.loadsAt_vmem h_S256x4096)) fun v => .op (.load wM wRect.toLoadRect (View.loadsAt_vmem h_S4096x128)) fun u =>
      .op (.load oM (ownRect c).toLoadRect (View.loadsAt_vmem h_S256x128)) fun _ =>
      .op (.store oM (ownRect c) (k0_pay1 v u) Finset.univ (View.stores_vmem_bits_univ h_S256x128 rfl) (.inl rfl)) fun _ => k
  | .compS d j => .op (.load (commM d) (slotRect (slotOf j)).toLoadRect (View.loadsAt_vmem h_S1x256x4096)) fun v => .op (.load wM wRect.toLoadRect (View.loadsAt_vmem h_S4096x128)) fun u =>
      .op (.load oM (stripRect d (stripNo j) c).toLoadRect (View.loadsAt_vmem h_S256x128)) fun _ =>
      .op (.store oM (stripRect d (stripNo j) c) (k0_pay2 v u) Finset.univ (View.stores_vmem_bits_univ h_S256x128 rfl) (.inl rfl)) fun _ => k
  | .compH d => .op (.load (commM d) (pieceRect 0 (lastHalf d)).toLoadRect (View.loadsAt_vmem h_S1x128x4096)) fun v => .op (.load wM wRect.toLoadRect (View.loadsAt_vmem h_S4096x128)) fun u =>
      .op (.load oM (halfRect d c).toLoadRect (View.loadsAt_vmem h_S128x128)) fun _ =>
      .op (.store oM (halfRect d c) (k0_pay17 v u) Finset.univ (View.stores_vmem_bits_univ h_S128x128 rfl) (.inl rfl)) fun _ => k

/-- A list of operations as a program. -/
def code (c : Dev nD) (l : List Op) : Prog (TpuEff nD τ sig (Elt F) Λ₀ .tc) PUnit := l.foldr (den c) (.ret ⟨⟩)

end Cert.Gather
-- ==== Proof.Cells.lean ====
/-
The kernel's semaphores as cells with rounds and duties, what each duty carries, and the contents of every buffer
along the run.
-/
module

public import proofs.«01_k».proof.Proof.Code
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Tactic.DeriveFintype

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A slot handed back: the owner, the direction, the slot. -/
abbrev Key : Type := Dev nD × Bool × Fin 4
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

instance er_lands : (ER (F := F)).LandsIn (upEmb : UEmb _ 𝕄) := by unfold ER; infer_instance
instance es_lands : (ES (F := F)).LandsIn (upEmb : UEmb _ 𝕄) := by unfold ES; infer_instance

/-- The conjunction over a list. -/
def sepAll {A : Type} (l : List A) (P : A → sProp 𝕄) : sProp 𝕄 := l.foldr (fun a R => iprop(P a ∗ R)) iprop(emp)
instance sepAll_storable {A : Type} (l : List A) (P : A → sProp 𝕄) [h : ∀ a, BI.Storable (upEmb : UEmb _ 𝕄) (P a)] :
    BI.Storable (upEmb : UEmb _ 𝕄) (sepAll l P) := by
  induction l with
  | nil => show BI.Storable upEmb iprop(emp); infer_instance
  | cons a l ih => show BI.Storable upEmb iprop(P a ∗ sepAll l P); infer_instance
instance sepAll_persistent {A : Type} (l : List A) (P : A → sProp 𝕄) [h : ∀ a, BI.Persistent (P a)] : BI.Persistent (sepAll l P) := by
  induction l with
  | nil => show BI.Persistent iprop(emp); infer_instance
  | cons a l ih => show BI.Persistent iprop(P a ∗ sepAll l P); infer_instance
instance pointsTo_stor (ℓ : Loc nD τ sig) (I : Finset (Idx ℓ)) (q : PosShare TreeShare) (f : Buf (Elt F) ℓ) :
    BI.Storable (upEmb : UEmb _ 𝕄) (ℓ ↦[I]{q} f) := inferInstance

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Contents -/

/-- The block of `x` and the weights a device works on. -/
def xBlk (c : Dev nD) : (cc0_stg0_0 : Ref sig .tc).ty.Contents (Elt F) :=
  (win0_0.blk (0 : Fin 1)).view.read (Elt F) ((s₀ m ρ).mem ((c : Thread nD τ).loc main_arg0))
def wBlk (c : Dev nD) : (cc0_stg1_0 : Ref sig .tc).ty.Contents (Elt F) :=
  (win0_1.blk (0 : Fin 1)).view.read (Elt F) ((s₀ m ρ).mem ((c : Thread nD τ).loc main_arg1))

/-- A landing buffer holding a block in every slot. -/
def filled (X : S256x4096.Idx → Elt F .f32) : S4x256x4096.Idx → Elt F .f32 := fun i => X (Fin.cons (i 1) (Fin.cons (i 2) finZeroElim))
def slotBuf (d : Bool) (c o : Dev nD) : Buf (Elt F) ((commM d).view.loc (c : Thread nD τ)) :=
  match d with
  | true => filled (xBlk m ρ o)
  | false => filled (xBlk m ρ o)

/-! ## Cells -/

/-- The kernel's semaphores on one device. -/
inductive Cid where
  | bar
  | cr (d : Bool)
  | snd (d : Bool) (q : Fin 4) (p : Fin 2)
  | rcv (d : Bool) (q : Fin 4) (p : Fin 2)
  deriving DecidableEq, Fintype

/-- The semaphore of a name. -/
@[reducible] def csem : Cid → SemLoc sig
  | .bar => .reg barSem
  | .cr d => .reg (crSem d)
  | .snd d q p => .dma (sndSem d q p)
  | .rcv d q p => .dma (rcvSem d q p)

theorem csem_injective : Function.Injective csem := by decide +kernel

abbrev cell (c : Dev nD) (x : Cid) : GSem nD τ sig := ((c : Thread nD τ), csem x)

/-- The name of a semaphore, if it is one of the kernel's. -/
def cidOf (s : SemLoc sig) : Option Cid := open Classical in if h : ∃ x, csem x = s then some h.choose else none
theorem cidOf_csem (x : Cid) : cidOf (csem x) = some x := by
  have h : ∃ y, csem y = csem x := ⟨x, rfl⟩
  unfold cidOf
  rw [dif_pos h, csem_injective h.choose_spec]

/-- The credit of one half block. -/
@[irreducible] def N : ℕ := (slotM true 0 0).view.dmaCredit
theorem N_pos : 0 < N := by
  unfold N
  exact View.dmaCredit_pos _ (by decide +kernel)

/-! ## What is held -/

/-- Half a slot of the landing buffer of `c`, holding the half of `o`'s block. -/
def slotPts (c : Dev nD) (d : Bool) (s : Fin 4) (p : Fin 2) (q : PosShare TreeShare) (o : Dev nD) : sProp 𝕄 :=
  (slotM d s p).view.loc (c : Thread nD τ) ↦[(slotM d s p).view.set]{q} slotBuf m ρ d c o
/-- The same with any contents. -/
def slotAny (c : Dev nD) (d : Bool) (s : Fin 4) (p : Fin 2) : sProp 𝕄 :=
  slot ((slotM d s p).view.loc (c : Thread nD τ)) (slotM d s p).view.set
/-- The share of the own block direction `d` sends from. -/
def xShare : Bool → PosShare TreeShare
  | true => fullShare.left.left
  | false => fullShare.left.right
/-- The half block that has come `j` hops, at the share lent to the next hop. -/
def lentPts (c : Dev nD) (d : Bool) (j : ℕ) (p : Fin 2) : sProp 𝕄 :=
  match j with
  | 0 => (halfM p).view.loc (c : Thread nD τ) ↦[(halfM p).view.set]{xShare d} xBlk m ρ c
  | j + 1 => slotPts m ρ c d (slotOf (j + 1)) p fullShare.left (origin d (j + 1) c)
/-- The slot handed back, as the device before takes it: the halves its later hop fills. -/
def keySlot (k : Key) : sProp 𝕄 :=
  sepAll (halves k.2.1 (bif decide (k.2.2 = 0) then 7 else 4)) fun p => slotAny k.1 k.2.1 k.2.2 p

/-- Credits `1 … k` handed: the slots are released, and the semaphores of the hops to come are at their second round. -/
def heard (e : Dev nD) (d : Bool) : ℕ → sProp 𝕄
  | 0 => iprop(emp)
  | k + 1 => iprop(heard e d k ∗ released ES (e, d, slotOf (k + 1)) 1
      ∗ sepAll (halves d (k + 4)) fun p => reached ER (cell e (.rcv d (slotOf (k + 4)) p)) 1)

/-! ## The schedule -/

/-- The duties of a cell. -/
def duty (x : Cid) (r : ℕ) : Finset ℕ :=
  match x with
  | .bar => if r = 0 then {0, 1} else ∅
  | .cr _ => if r = 0 then {1, 2, 3, 4} else ∅
  | .snd d q p => if has d (4 * r + q.val) p then {0} else ∅
  | .rcv d q p => if has d (4 * r + q.val) p then {0} else ∅
/-- The units of a duty. -/
def units : Cid → ℕ
  | .bar => 1
  | .cr _ => 1
  | .snd _ _ _ => N
  | .rcv _ _ _ => N
theorem units_pos : ∀ x, 0 < units x
  | .bar => Nat.one_pos
  | .cr _ => Nat.one_pos
  | .snd _ _ _ => N_pos
  | .rcv _ _ _ => N_pos
/-- Which neighbour's signal a barrier duty is. -/
def barDir (k : ℕ) : Bool := decide (k = 1)
def barDuty (d : Bool) : ℕ := bif d then 1 else 0
/-- What a duty carries to the device `c` whose cell it is. -/
def carries (c : Dev nD) (x : Cid) (r k : ℕ) : sProp 𝕄 :=
  match x with
  | .bar => sepAll quads fun y => slotAny (nbr (barDir k) c) (barDir k) (slotOf (y.1.val + 1)) y.2
  | .cr d => heard (nbr d c) d k
  | .snd d q p => lentPts m ρ c d (4 * r + q.val) p
  | .rcv d q p => slotPts m ρ c d (slotOf (4 * r + q.val + 1)) p fullShare (origin d (4 * r + q.val + 1) c)

/-- The schedule of every cell. -/
def sched : Rounds.Schedule (GSem nD τ sig) ℕ 𝕄 where
  duties g r := if g.1.2 = .tc then (match cidOf g.2 with | some x => duty x r | none => ∅) else ∅
  unitless _ := False
  amount g _ _ := match cidOf g.2 with | some x => units x | none => 1
  payload g r k := match cidOf g.2 with | some x => carries m ρ g.1.1 x r k | none => iprop(emp)
  amount_pos g _ _ _ := by
    rcases cidOf g.2 with _ | x
    · exact Nat.one_pos
    · exact units_pos x

instance slotAny_storable (c : Dev nD) (d : Bool) (s : Fin 4) (p : Fin 2) : BI.Storable (upEmb : UEmb _ 𝕄) (slotAny (F := F) c d s p) := by unfold slotAny; infer_instance
instance slotPts_storable (c : Dev nD) (d : Bool) (s : Fin 4) (p : Fin 2) (q o) : BI.Storable (upEmb : UEmb _ 𝕄) (slotPts m ρ c d s p q o) := by unfold slotPts; exact pointsTo_stor _ _ _ _
instance lentPts_storable (c : Dev nD) (d : Bool) (j : ℕ) (p : Fin 2) : BI.Storable (upEmb : UEmb _ 𝕄) (lentPts m ρ c d j p) := by
  cases j with
  | zero => exact pointsTo_stor _ _ _ _
  | succ j => exact slotPts_storable m ρ ..
instance heard_storable (e : Dev nD) (d : Bool) (k : ℕ) : BI.Storable (upEmb : UEmb _ 𝕄) (heard (F := F) e d k) := by
  induction k with
  | zero => show BI.Storable upEmb iprop(emp); infer_instance
  | succ k ih =>
    show BI.Storable upEmb iprop(heard e d k ∗ released ES (e, d, slotOf (k + 1)) 1
      ∗ sepAll (halves d (k + 4)) fun p => reached ER (cell e (.rcv d (slotOf (k + 4)) p)) 1)
    infer_instance
instance heard_persistent (e : Dev nD) (d : Bool) (k : ℕ) : BI.Persistent (heard (F := F) e d k) := by
  induction k with
  | zero => show BI.Persistent iprop(emp); infer_instance
  | succ k ih =>
    show BI.Persistent iprop(heard e d k ∗ released ES (e, d, slotOf (k + 1)) 1
      ∗ sepAll (halves d (k + 4)) fun p => reached ER (cell e (.rcv d (slotOf (k + 4)) p)) 1)
    infer_instance
instance keySlot_storable (k : Key) : BI.Storable (upEmb : UEmb _ 𝕄) (keySlot (F := F) k) := by unfold keySlot; infer_instance
instance carries_storable (c : Dev nD) (x : Cid) (r k : ℕ) : BI.Storable (upEmb : UEmb _ 𝕄) (carries m ρ c x r k) := by
  cases x with
  | bar => exact sepAll_storable _ _
  | cr d => exact heard_storable ..
  | snd d q p => exact lentPts_storable m ρ ..
  | rcv d q p => exact slotPts_storable m ρ ..
instance sched_storable (g : GSem nD τ sig) (r k : ℕ) : BI.Storable (upEmb : UEmb _ 𝕄) ((sched m ρ).payload g r k) := by
  show BI.Storable upEmb (match cidOf g.2 with | some x => carries m ρ g.1.1 x r k | none => iprop(emp))
  cases cidOf g.2 <;> infer_instance

section At
variable (c : Dev nD) (x : Cid)

theorem duties_at (r : ℕ) : (sched m ρ).duties (cell c x) r = duty x r := by
  show (if (cell c x).1.2 = .tc then (match cidOf (csem x) with | some x => duty x r | none => ∅) else ∅) = _
  rw [if_pos rfl, cidOf_csem]
theorem amount_at (r k : ℕ) : (sched m ρ).amount (cell c x) r k = units x := by
  show (match cidOf (csem x) with | some x => units x | none => 1) = _
  rw [cidOf_csem]
theorem payload_at (r k : ℕ) : (sched m ρ).payload (cell c x) r k = carries m ρ c x r k := by
  show (match cidOf (csem x) with | some x => carries m ρ c x r k | none => iprop(emp)) = _
  rw [cidOf_csem]
theorem expect_at (r : ℕ) : (sched m ρ).expect (cell c x) r = (duty x r).card * units x := by
  unfold Schedule.expect Schedule.amountOf
  rw [duties_at, Finset.sum_congr rfl fun k _ => amount_at m ρ c x r k, Finset.sum_const, smul_eq_mul]

end At

end Cert.Gather
-- ==== Proof.Owed.lean ====
/-
What a device owes along the body: the payments still to be made, each at the index of its place among them, and the
levels that allow a wait while they are owed.
-/
module

public import proofs.«01_k».proof.Proof.Cells

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The cell an operation pays into, and how much. -/
def target (c : Dev nD) : Op → GSem nD τ sig
  | .sigBar d => cell (nbr (!d) c) .bar
  | .send d j p => cell (nbr d c) (.rcv d (slotOf j) p)
  | .sigCr d _ => cell (nbr (!d) c) (.cr d)
  | _ => cell c .bar
def worth : Op → ℕ
  | .send _ _ _ => N
  | _ => 1

/-- What a list of payments owes. -/
def owedBy (c : Dev nD) : List Op → CellTallies nD τ sig ℕ
  | [] => 0
  | o :: l => owedBy c l + tallyAt (target c o) (time o) (worth o)
/-- What is owed when `n` payments are made. -/
def owedAfter (c : Dev nD) (n : ℕ) : CellTallies nD τ sig ℕ := owedBy c (payOps.drop n)

theorem owedAfter_step {c : Dev nD} {n : ℕ} {o : Op} (h : payOps.drop n = o :: payOps.drop (n + 1)) :
    owedAfter c n = owedAfter c (n + 1) + tallyAt (target c o) (time o) (worth o) := by
  unfold owedAfter; rw [h]; rfl

theorem owedBy_pos {c : Dev nD} {l : List Op} {g : GSem nD τ sig} {i : ℕ} (h : 0 < owedBy c l g i) :
    ∃ o ∈ l, g = target c o ∧ i = time o := by
  induction l with
  | nil => exact absurd h (Nat.lt_irrefl 0)
  | cons o l ih =>
    have e : owedBy c (o :: l) g i = owedBy c l g i + tallyAt (target c o) (time o) (worth o) g i := rfl
    rw [e, tallyAt_apply] at h
    by_cases hg : g = target c o ∧ i = time o
    · exact ⟨o, List.mem_cons_self, hg⟩
    · rw [if_neg hg] at h
      obtain ⟨o', ho', hh⟩ := ih h
      exact ⟨o', List.mem_cons_of_mem _ ho', hh⟩

theorem payOps_length : payOps.length = 40 := by decide +kernel
theorem drop_times : ∀ n < 40, ∀ o ∈ payOps.drop n, n < time o := by decide +kernel
theorem time_lt (o : Op) : time o < 42 := by
  have := List.idxOf_le_length (a := o) (l := payOps)
  rw [payOps_length] at this
  unfold time; omega
theorem target_tc (c : Dev nD) (o : Op) : (target c o).1.2 = .tc := by cases o <;> rfl

/-- The indices and levels: a cell's index is its level. -/
def L (g : GSem nD τ sig) : Finset ℕ := if g.1.2 = .tc then Finset.range 42 else ∅
def lv (_ : GSem nD τ sig) (i : ℕ) : ℕ := i
theorem L_tc (c : Dev nD) (sm : SemLoc sig) : L ((c : Thread nD τ), sm) = Finset.range 42 := if_pos rfl

theorem owedAfter_pos {c : Dev nD} {n : ℕ} {g : GSem nD τ sig} {i : ℕ} (h : 0 < owedAfter c n g i) : i ∈ L g ∧ n < i := by
  obtain ⟨o, ho, rfl, rfl⟩ := owedBy_pos h
  refine ⟨?_, ?_⟩
  · unfold L; rw [if_pos (target_tc c o)]; exact Finset.mem_range.mpr (time_lt o)
  · by_cases hn : n < 40
    · exact drop_times n hn o ho
    · rw [List.drop_eq_nil_of_le (by rw [payOps_length]; omega)] at ho
      exact absurd ho List.not_mem_nil

/-- A wait at indices no later than the payments made is allowed. -/
theorem mayOwe_after (c : Dev nD) (n : ℕ) (hn : n ≤ 41) (Ws : Waits sig ℕ) (hW : ∀ p ∈ Ws, p.2 ≤ n) :
    (levAts L lv : sProp 𝕄) ⊢ MayOwe (c : Thread nD τ) Ws (owedAfter c n) :=
  MayOwe.of_cut (L := L) (lev := lv) n
    (fun p hp => by rw [L_tc]; exact Finset.mem_range.mpr (by have := hW p hp; omega))
    (fun g i hg => (owedAfter_pos hg).1) (fun p hp => hW p hp) (fun g i hg => (owedAfter_pos hg).2)
theorem mayWait_after (c : Dev nD) (n : ℕ) (hn : n ≤ 41) (s : SemLoc sig) (i : ℕ) (hi : i ≤ n) :
    (levAts L lv : sProp 𝕄) ⊢ MayWait (c : Thread nD τ) s i (owedAfter c n) :=
  mayOwe_after c n hn _ fun p hp => by rw [Finset.mem_singleton.mp hp]; exact hi

end Cert.Gather
-- ==== Proof.Contents.lean ====
/-
The contents of the views: what a half slot reads, that a landing leaves the half slot with the sender's half block,
and how the half slots tile a landing buffer.
-/
module

public import proofs.«01_k».proof.Proof.Cells
public import Idealize.ShloMosaic.Lib.ValueLayout

@[expose] public section

set_option maxRecDepth 65536

noncomputable section

namespace Cert.Gather

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (ρ : Dev nD → PrngReg)

/-- The index of a half slot in its landing buffer. -/
theorem slot_index (s : Fin 4) (p : Fin 2) (u : Fin 128) (v : Fin 4096) (h : S128x4096.numel = S1x128x4096.numel) :
    (Rect.unit (s := S4x256x4096) ![s.val, 128 * p.val, 0] S1x128x4096.size (slot_inb s p)).emb (Shape.reshapeEquiv h (ix2 u v))
      = (ix3 s (⟨128 * p.val + u.val, by omega⟩ : Fin 256) v : S4x256x4096.Idx) := by
  have e := reshapeEquiv_ix2_1ab (a := 128) (b := 4096) h u v
  rw [show Shape.reshapeEquiv h (ix2 u v) = _ from e]
  funext a
  apply Fin.ext
  fin_cases a
  · show s.val + 1 * 0 = s.val
    omega
  · show 128 * p.val + 1 * u.val = 128 * p.val + u.val
    omega
  · show 0 + 1 * v.val = v.val
    omega

/-- The index of a half of the own block. -/
theorem half_index (p : Fin 2) (u : Fin 128) (v : Fin 4096) :
    (Rect.unit (s := S256x4096) ![128 * p.val, 0] S128x4096.size (half_inb p)).emb (ix2 u v)
      = (ix2 (⟨128 * p.val + u.val, by omega⟩ : Fin 256) v : S256x4096.Idx) := by
  funext a
  apply Fin.ext
  fin_cases a
  · show 128 * p.val + 1 * u.val = 128 * p.val + u.val
    omega
  · show 0 + 1 * v.val = v.val
    omega

/-- A filled landing buffer reads, at any half slot, the half of the block it is filled with. -/
theorem read_slot (d : Bool) (c o : Dev nD) (s : Fin 4) (p : Fin 2) :
    (slotM d s p).view.read (Elt F) (slotBuf m ρ d c o) = (halfM p).view.read (Elt F) (xBlk m ρ o) := by
  funext x
  obtain ⟨u, v, rfl⟩ : ∃ (u : Fin 128) (v : Fin 4096), x = ix2 u v := ⟨x 0, x 1, eq_ix2 x⟩
  have e1 : filled (xBlk m ρ o) ((Rect.unit (s := S4x256x4096) ![s.val, 128 * p.val, 0] S1x128x4096.size (slot_inb s p)).emb
        (Shape.reshapeEquiv (show S128x4096.numel = S1x128x4096.numel by decide +kernel) (ix2 u v)))
      = xBlk m ρ o ((Rect.unit (s := S256x4096) ![128 * p.val, 0] S128x4096.size (half_inb p)).emb (ix2 u v)) := by
    rw [slot_index, half_index]
    exact congrArg (xBlk m ρ o) (by funext a; fin_cases a <;> rfl)
  cases d <;> exact e1

/-- The source of a hop reads the half of the block that has come that far. -/
theorem read_src (d : Bool) (c : Dev nD) (j : ℕ) (p : Fin 2) :
    (slotM d (slotOf (j + 1)) p).view.read (Elt F) (slotBuf m ρ d c (origin d (j + 1) c)) = (halfM p).view.read (Elt F) (xBlk m ρ (origin d (j + 1) c)) :=
  read_slot m ρ d c _ _ p

/-! ## How the half slots tile a landing buffer -/

/-- The slot and the half of an index of a landing buffer. -/
def slotAndHalf (i : S4x256x4096.Idx) : Fin 4 × Fin 2 :=
  ((⟨(i 0).val, (i 0).isLt⟩ : Fin 4), (⟨(i 1).val / 128, by have h : (i 1).val < 256 := (i 1).isLt; omega⟩ : Fin 2))
def placeOf (d : Bool) (i : (commM d).view.ty.Idx) : Fin 4 × Fin 2 :=
  match d, i with
  | true, i => slotAndHalf i
  | false, i => slotAndHalf i

/-- The half slots are the fibres of `slotAndHalf`. -/
theorem mem_range_slot (s : Fin 4) (p : Fin 2) (h : S128x4096.numel = S1x128x4096.numel) (i : S4x256x4096.Idx) :
    (∃ x : S128x4096.Idx, (Rect.unit (s := S4x256x4096) ![s.val, 128 * p.val, 0] S1x128x4096.size (slot_inb s p)).emb (Shape.reshapeEquiv h x) = i)
      ↔ slotAndHalf i = (s, p) := by
  constructor
  · rintro ⟨x, rfl⟩
    obtain ⟨u, v, rfl⟩ : ∃ (u : Fin 128) (v : Fin 4096), x = ix2 u v := ⟨x 0, x 1, eq_ix2 x⟩
    rw [slot_index]
    refine Prod.ext (Fin.ext rfl) (Fin.ext ?_)
    show (128 * p.val + u.val) / 128 = p.val
    omega
  · intro e
    have e0 : (i 0).val = s.val := congrArg (fun y => y.1.val) e
    have e1 : (i 1).val / 128 = p.val := congrArg (fun y => y.2.val) e
    have hv : (i 2).val < 4096 := (i 2).isLt
    refine ⟨ix2 (⟨(i 1).val % 128, Nat.mod_lt _ (by decide)⟩ : Fin 128) (⟨(i 2).val, hv⟩ : Fin 4096), ?_⟩
    rw [slot_index]
    funext a
    apply Fin.ext
    fin_cases a
    · exact e0.symm
    · show 128 * p.val + (i 1).val % 128 = (i 1).val
      omega
    · rfl

theorem mem_slot (d : Bool) (s : Fin 4) (p : Fin 2) (i : (commM d).view.ty.Idx) :
    i ∈ (slotM d s p).view.set ↔ placeOf d i = (s, p) := by
  have e : (∃ x : S128x4096.Idx, (slotM d s p).view.emb x = i) ↔ placeOf d i = (s, p) := by
    cases d
    · exact mem_range_slot s p _ i
    · exact mem_range_slot s p _ i
  refine Iff.trans ?_ e
  show i ∈ Finset.univ.map (slotM d s p).view.emb ↔ _
  refine Finset.mem_map.trans ?_
  exact ⟨fun ⟨x, _, hx⟩ => ⟨x, hx⟩, fun ⟨x, hx⟩ => ⟨x, Finset.mem_univ _, hx⟩⟩

theorem slot_disjoint (d : Bool) {s s' : Fin 4} {p p' : Fin 2} (h : (s, p) ≠ (s', p')) :
    Disjoint ((slotM d s p).view.set : Finset (commM d).view.ty.Idx) (slotM d s' p').view.set :=
  Finset.disjoint_left.mpr fun i h1 h2 => h (((mem_slot d s p i).mp h1).symm.trans ((mem_slot d s' p' i).mp h2))

theorem slot_nonempty (d : Bool) (s : Fin 4) (p : Fin 2) : (slotM d s p).view.set.Nonempty :=
  ⟨_, (slotM d s p).view.emb_mem_set (ix2 (0 : Fin 128) (0 : Fin 4096))⟩

/-- The place of an index a load through a unit rectangle touches. -/
theorem load_index (d : Bool) (r : LoadRect S4x256x4096) {i : (commM d).view.ty.Idx} (hi : i ∈ (commM d).view.setOn r.set) :
    ∃ y : S4x256x4096.Idx, placeOf d i = slotAndHalf y ∧ ∀ a, ∃ j < r.size a, (y a).val = r.off a + r.stride a * j := by
  obtain ⟨y, hy, rfl⟩ := Finset.mem_map.mp hi
  refine ⟨y, ?_, (LoadRect.mem_set r).mp hy⟩
  cases d <;> rfl

/-- A slot's load stays within its two halves, a half slot's within the half. -/
theorem load_slot_subset (d : Bool) (s : Fin 4) :
    ((commM d).view.setOn (slotRect s).toLoadRect.set : Finset (commM d).view.ty.Idx) ⊆ ((slotM d s 0).view.set : Finset (commM d).view.ty.Idx) ∪ (slotM d s 1).view.set := by
  intro i hi
  obtain ⟨y, hy, h⟩ := load_index d _ hi
  obtain ⟨j, hj, h0⟩ := h 0
  have hj : j < 1 := hj
  have h0 : (y 0).val = s.val + 1 * j := h0
  have hs : (slotAndHalf y).1 = s := Fin.ext (by show (y 0).val = s.val; omega)
  have hc : (slotAndHalf y).2 = 0 ∨ (slotAndHalf y).2 = 1 := by
    generalize (slotAndHalf y).2 = p; revert p; decide
  rcases hc with hc | hc
  · exact Finset.mem_union_left _ ((mem_slot d s 0 i).mpr (hy.trans (Prod.ext hs hc)))
  · exact Finset.mem_union_right _ ((mem_slot d s 1 i).mpr (hy.trans (Prod.ext hs hc)))
theorem load_piece_subset (d : Bool) (s : Fin 4) (p : Fin 2) :
    ((commM d).view.setOn (pieceRect s p).toLoadRect.set : Finset (commM d).view.ty.Idx) ⊆ (slotM d s p).view.set := by
  intro i hi
  obtain ⟨y, hy, h⟩ := load_index d _ hi
  obtain ⟨j, hj, h0⟩ := h 0
  have hj : j < 1 := hj
  have h0 : (y 0).val = s.val + 1 * j := h0
  obtain ⟨k, hk, h1⟩ := h 1
  have hk : k < 128 := hk
  have h1 : (y 1).val = 128 * p.val + 1 * k := h1
  refine (mem_slot d s p i).mpr (hy.trans (Prod.ext (Fin.ext ?_) (Fin.ext ?_)))
  · show (y 0).val = s.val
    omega
  · show (y 1).val / 128 = p.val
    omega

end Cert.Gather
-- ==== Proof.Tokens.lean ====
/-
What each token of the protocol stands for on a device, and what all devices share.
-/
module

public import proofs.«01_k».proof.Proof.Owed
public import proofs.«01_k».proof.Proof.Contents

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The result along the body -/

/-- The result's buffer on a device. -/
abbrev outBuf (F : FTy → Type) [FloatOps F] (c : Dev nD) : Type := Buf (Elt F) (oM.view.loc (c : Thread nD τ))

/-- The three products. -/
def ownProd (c : Dev nD) : (⟨2, ![256, 128]⟩ : Shape).Idx → Elt F .f32 :=
  k0_pay1 (xM.view.readAt (Elt F) xRect.toLoadRect (xBlk m ρ c)) (wM.view.readAt (Elt F) wRect.toLoadRect (wBlk m ρ c))
def stripProd (c : Dev nD) (d : Bool) (j : ℕ) : (⟨2, ![256, 128]⟩ : Shape).Idx → Elt F .f32 :=
  k0_pay2 ((commM d).view.readAt (Elt F) (slotRect (slotOf j)).toLoadRect (slotBuf m ρ d c (origin d j c))) (wM.view.readAt (Elt F) wRect.toLoadRect (wBlk m ρ c))
def halfProd (c : Dev nD) (d : Bool) : (⟨2, ![128, 128]⟩ : Shape).Idx → Elt F .f32 :=
  k0_pay17 ((commM d).view.readAt (Elt F) (pieceRect 0 (lastHalf d)).toLoadRect (slotBuf m ρ d c (origin d 8 c))) (wM.view.readAt (Elt F) wRect.toLoadRect (wBlk m ρ c))

/-- The result after one more product. -/
def put (c : Dev nD) (o : Op) (f : outBuf F c) : outBuf F c :=
  match o with
  | .compX => (oM.access (ownRect c)).write (Elt F) f (ownProd m ρ c) Finset.univ
  | .compS d j => (oM.access (stripRect d (stripNo j) c)).write (Elt F) f (stripProd m ρ c d j) Finset.univ
  | .compH d => (oM.access (halfRect d c)).write (Elt F) f (halfProd m ρ c d) Finset.univ
  | _ => f
/-- The result after `n` products, from the contents `f`. -/
def outAfter (c : Dev nD) (f : outBuf F c) (n : ℕ) : outBuf F c := (comps.take n).foldl (fun g o => put m ρ c o g) f

theorem outAfter_succ {c : Dev nD} {f : outBuf F c} {n : ℕ} {o : Op} (h : comps[n]? = some o) :
    outAfter m ρ c f (n + 1) = put m ρ c o (outAfter m ρ c f n) := by
  unfold outAfter
  rw [List.take_add_one, h, List.foldl_append]
  rfl

/-! ## The tokens -/

/-- The credits received so far: at least `k` of the four duties are paid, and what the furthest of them carries is known. -/
def creditPos (c : Dev nD) (d : Bool) (k : ℕ) : sProp 𝕄 :=
  iprop(∃ (S : Finset ℕ) (n : ℕ), ⌜S ⊆ {1, 2, 3, 4} ∧ k ≤ S.card ∧ ∀ i ∈ S, i ≤ n⌝ ∗ atPos ER (cell c (.cr d)) 0 S k ∗ heard (nbr d c) d n)

/-- The own block at the share kept for the products, the weights, the result. -/
def xPts (c : Dev nD) : sProp 𝕄 := xM.view.loc (c : Thread nD τ) ↦[xM.view.set]{fullShare.right} xBlk m ρ c
def wPts (c : Dev nD) : sProp 𝕄 := wM.view.loc (c : Thread nD τ) ↦[wM.view.set]{fullShare} wBlk m ρ c
def outPts (c : Dev nD) (i : ℕ) : sProp 𝕄 := iprop(∃ f, oM.view.loc (c : Thread nD τ) ↦[oM.view.set]{fullShare} outAfter m ρ c f i)

/-- The place at a semaphore of the hops. -/
def hopPos (c : Dev nD) (x : Cid) (j : ℕ) : sProp 𝕄 := iprop(atPos ER (cell c x) (j / 4) ∅ 0 ∗ reached ER (cell c x) (j / 4))

/-- A token on the device `c`. -/
def res (c : Dev nD) : Res → sProp 𝕄
  | .btok d => dutyTok ER (cell (nbr (!d) c) .bar) 0 (barDuty d)
  | .bpos => atPos ER (cell c .bar) 0 ∅ 0
  | .bdone => atPos ER (cell c .bar) 1 ∅ 0
  | .bcred => cred (tallyOn (cell c .bar) (Finsupp.single 1 1 + Finsupp.single 2 1))
  | .own d s p => slotAny c d s p
  | .tok d j p => iprop(dutyTok ER (cell c (.snd d (slotOf j) p)) (j / 4) 0 ∗ dutyTok ER (cell (nbr d c) (.rcv d (slotOf j) p)) (j / 4) 0)
  | .rcred d j p => cred (tallyAt (cell c (.rcv d (slotOf j) p)) (time (.send d j p)) N)
  | .scred d j p => cred (tallyAt (cell c (.snd d (slotOf j) p)) 0 N)
  | .spos d j p => hopPos c (.snd d (slotOf j) p) j
  | .rpos d j p => hopPos c (.rcv d (slotOf j) p) j
  | .peer d j p => iprop(slotAny (nbr d c) d (slotOf (j + 1)) p ∗ reached ER (cell (nbr d c) (.rcv d (slotOf j) p)) (j / 4))
  | .lent d j p => lentPts m ρ c d j p
  | .keep d j p => slotPts m ρ c d (slotOf j) p fullShare.right (origin d j c)
  | .xkeep => xPts m ρ c
  | .wbuf => wPts m ρ c
  | .out i => outPts m ρ c i
  | .ctok d k => dutyTok ER (cell (nbr (!d) c) (.cr d)) 0 k
  | .rdr d k => readerAt ES (c, d, slotOf k) 0
  | .hd d k => heard c d k
  | .cpos d k => bif decide (k = 4) then atPos ER (cell c (.cr d)) 1 ∅ 0 else creditPos c d k
  | .ccred d k => cred (tallyAt (cell c (.cr d)) (time (.sigCr d k)) 1)
  | .wtok d k => writeTok ES (nbr d c, d, slotOf k) 1

/-- A list of tokens. -/
def held (c : Dev nD) (l : List Res) : sProp 𝕄 := sepAll l (res m ρ c)

/-- What is still owed after `n` payments, whatever has been waited for. -/
def owing (c : Dev nD) (n : ℕ) : sProp 𝕄 := iprop(∃ Ws, owes (c : Thread nD τ) (owedAfter c n) Ws)

/-! ## What all devices share -/

variable (κ : Dev nD × Cid → ℕ) (ιs : Key → ℕ)

/-- The invariants of all cells and of all slots handed back, the first round of every cell, the levels. -/
def shared : sProp 𝕄 :=
  iprop(levAts L lv ∗ (bigSep Finset.univ fun y : Dev nD × Cid => cellInv ER (sched m ρ) (κ y) (cell y.1 y.2))
    ∗ (bigSep Finset.univ fun y : Dev nD × Cid => reached ER (cell y.1 y.2) 0)
    ∗ (bigSep Finset.univ fun k : Key => slotInv ES (ιs k) k (keySlot k)))
instance shared_persistent : BI.Persistent (shared m ρ κ ιs) := by unfold shared; infer_instance

theorem all_elim {I : Type} [Fintype I] [DecidableEq I] (Φ : I → sProp 𝕄) (i : I) : bigSep Finset.univ Φ ⊢ Φ i := bigSep_elim (Finset.mem_univ i)
theorem shared_lev : shared m ρ κ ιs ⊢ levAts L lv := by
  unfold shared; iintro ⟨H, -⟩; iexact H
theorem shared_cell (c : Dev nD) (x : Cid) : shared m ρ κ ιs ⊢ cellInv ER (sched m ρ) (κ (c, x)) (cell c x) := by
  unfold shared; iintro ⟨-, H, -⟩
  iapply (all_elim (fun y : Dev nD × Cid => cellInv ER (sched m ρ) (κ y) (cell y.1 y.2)) (c, x)); iexact H
theorem shared_reached (c : Dev nD) (x : Cid) : shared m ρ κ ιs ⊢ reached ER (cell c x) 0 := by
  unfold shared; iintro ⟨-, -, H, -⟩
  iapply (all_elim (fun y : Dev nD × Cid => reached ER (cell y.1 y.2) 0) (c, x)); iexact H
theorem shared_slot (k : Key) : shared m ρ κ ιs ⊢ slotInv ES (ιs k) k (keySlot k) := by
  unfold shared; iintro ⟨-, -, -, H⟩
  iapply (all_elim (fun k : Key => slotInv ES (ιs k) k (keySlot k)) k); iexact H

/-! ## Lists -/

section Lists
variable {A : Type}

theorem sepAll_nil (P : A → sProp 𝕄) : sepAll [] P = iprop(emp) := rfl
theorem sepAll_cons (a : A) (l : List A) (P : A → sProp 𝕄) : sepAll (a :: l) P = iprop(P a ∗ sepAll l P) := rfl
theorem sepAll_append (l l' : List A) (P : A → sProp 𝕄) : sepAll (l ++ l') P ⊣⊢ iprop(sepAll l P ∗ sepAll l' P) := by
  induction l with
  | nil => exact emp_sep.symm
  | cons a l ih =>
    rw [List.cons_append, sepAll_cons, sepAll_cons]
    exact (sep_congr_right ih).trans sep_assoc.symm
theorem sepAll_map {B : Type} (f : B → A) (l : List B) (P : A → sProp 𝕄) : sepAll (l.map f) P = sepAll l fun b => P (f b) := by
  induction l with
  | nil => rfl
  | cons b l ih => rw [List.map_cons, sepAll_cons, sepAll_cons, ih]
theorem sepAll_mono {l : List A} {P Q : A → sProp 𝕄} (h : ∀ a ∈ l, P a ⊢ Q a) : sepAll l P ⊢ sepAll l Q := by
  induction l with
  | nil => exact .rfl
  | cons a l ih =>
    rw [sepAll_cons, sepAll_cons]
    exact BIClass.sep_mono (h a List.mem_cons_self) (ih fun b hb => h b (List.mem_cons_of_mem _ hb))
theorem sepAll_frame {l : List A} {R : sProp 𝕄} [BI.Persistent R] {P Q : A → sProp 𝕄} (h : ∀ a ∈ l, iprop(R ∗ P a) ⊢ Q a) :
    iprop(R ∗ sepAll l P) ⊢ sepAll l Q := by
  induction l with
  | nil => rw [sepAll_nil, sepAll_nil]; iintro ⟨-, H⟩; iexact H
  | cons a l ih =>
    rw [sepAll_cons, sepAll_cons]
    iintro ⟨#HR, Ha, Hl⟩
    isplitl [Ha]
    · iapply (h a List.mem_cons_self); isplitr; · iexact HR
      iexact Ha
    · iapply (ih fun b hb => h b (List.mem_cons_of_mem _ hb)); isplitr; · iexact HR
      iexact Hl
theorem sepAll_flatMap {B : Type} (f : B → List A) (l : List B) (P : A → sProp 𝕄) :
    sepAll (l.flatMap f) P ⊣⊢ sepAll l fun b => sepAll (f b) P := by
  induction l with
  | nil => exact .rfl
  | cons b l ih =>
    rw [List.flatMap_cons, sepAll_cons]
    exact (sepAll_append _ _ P).trans (sep_congr_right ih)
theorem sepAll_sep (l : List A) (P Q : A → sProp 𝕄) : (sepAll l fun a => iprop(P a ∗ Q a)) ⊢ iprop(sepAll l P ∗ sepAll l Q) := by
  induction l with
  | nil => exact BIClass.emp_sep.2
  | cons a l ih =>
    rw [sepAll_cons, sepAll_cons, sepAll_cons]
    iintro ⟨⟨Ha, Hb⟩, Hl⟩
    ihave Hl := ih $$ Hl
    icases Hl with ⟨Hp, Hq⟩
    isplitl [Ha Hp]
    · isplitl [Ha] <;> iassumption
    · isplitl [Hb] <;> iassumption
theorem sepAll_sep_intro (l : List A) (P Q : A → sProp 𝕄) : iprop(sepAll l P ∗ sepAll l Q) ⊢ sepAll l fun a => iprop(P a ∗ Q a) := by
  induction l with
  | nil => exact BIClass.emp_sep.1
  | cons a l ih =>
    rw [sepAll_cons, sepAll_cons, sepAll_cons]
    iintro ⟨⟨Ha, Hp⟩, Hb, Hq⟩
    isplitl [Ha Hb]
    · isplitl [Ha] <;> iassumption
    · iapply ih; isplitl [Hp] <;> iassumption
theorem sepAll_perm {l l' : List A} (h : l.Perm l') (P : A → sProp 𝕄) : sepAll l P ⊢ sepAll l' P := by
  induction h with
  | nil => exact .rfl
  | cons a _ ih => rw [sepAll_cons, sepAll_cons]; exact BIClass.sep_mono .rfl ih
  | swap a b l =>
    rw [sepAll_cons, sepAll_cons, sepAll_cons, sepAll_cons]
    iintro ⟨Ha, Hb, Hl⟩
    isplitl [Hb]; · iexact Hb
    isplitl [Ha] <;> iassumption
  | trans _ _ ih1 ih2 => exact ih1.trans ih2
theorem sepAll_erase [DecidableEq A] {a : A} {l : List A} (h : a ∈ l) (P : A → sProp 𝕄) : sepAll l P ⊢ iprop(P a ∗ sepAll (l.erase a) P) := by
  induction l with
  | nil => exact absurd h List.not_mem_nil
  | cons b l ih =>
    by_cases hb : b = a
    · subst hb; rw [List.erase_cons_head, sepAll_cons]
    · rw [List.erase_cons_tail (by simpa using hb), sepAll_cons, sepAll_cons]
      have ha : a ∈ l := (List.mem_cons.mp h).resolve_left fun e => hb e.symm
      iintro ⟨Hb, Hl⟩
      ihave Hl := ih ha $$ Hl
      icases Hl with ⟨Ha, Hl⟩
      isplitl [Ha]; · iexact Ha
      isplitl [Hb] <;> iassumption

end Lists

/-- Taking tokens out of a list. -/
theorem held_takeAll (c : Dev nD) : ∀ (pre l l' : List Res), takeAll pre l = some l' → held m ρ c l ⊢ iprop(held m ρ c pre ∗ held m ρ c l')
  | [], l, l', h => by
    obtain rfl : l = l' := Option.some.inj h
    exact BIClass.emp_sep.2
  | r :: rs, l, l', h => by
    unfold takeAll at h
    by_cases hr : r ∈ l
    · rw [if_pos hr] at h
      have ih := held_takeAll c rs _ _ h
      unfold held at ih ⊢
      rw [sepAll_cons]
      iintro H
      ihave H := sepAll_erase hr (res m ρ c) $$ H
      icases H with ⟨Ha, H⟩
      ihave H := ih $$ H
      icases H with ⟨H1, H2⟩
      isplitl [Ha H1]
      · isplitl [Ha] <;> iassumption
      iexact H2
    · rw [if_neg hr] at h; exact absurd h (by simp)

end Cert.Gather
-- ==== Proof.Cover.lean ====
/-
The products fill the whole result: what the buffer held before does not matter.
-/
module

public import proofs.«01_k».proof.Proof.Tokens

@[expose] public section

set_option maxRecDepth 65536

noncomputable section

namespace Cert.Gather

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (ρ : Dev nD → PrngReg)
variable (c : Dev nD)

/-! ## Where the products go -/

theorem stripOff_eq : ∀ (d : Bool) (j : Fin 7) (c : Dev nD), stripOff d j c = ![256 * (origin d (j.val + 1) c).val, 0] := by decide +kernel
theorem halfOff_eq : ∀ (d : Bool) (c : Dev nD), halfOff d c = ![256 * (origin d 8 c).val + 128 * (lastHalf d).val, 0] := by decide +kernel
theorem stripNo_val {j : ℕ} (h : 1 ≤ j ∧ j ≤ 7) : (stripNo j).val + 1 = j := by
  unfold stripNo; show (j - 1) % 7 + 1 = j; omega

/-- The rectangle of a product, for the other operations any. -/
def rectOf (o : Op) : Rect S4096x128 :=
  match o with
  | .compS d j => stripRect d (stripNo j) c
  | .compH d => halfRect d c
  | _ => ownRect c

/-- The product itself. -/
def prodOf (o : Op) : (rectOf c o).shape.Idx → Elt F .f32 :=
  match o with
  | .compX => ownProd m ρ c
  | .compS d j => stripProd m ρ c d j
  | .compH d => halfProd m ρ c d
  | .sigBar _ => ownProd m ρ c
  | .waitBar => ownProd m ρ c
  | .send _ _ _ => ownProd m ρ c
  | .waitS _ _ _ => ownProd m ρ c
  | .waitR _ _ _ => ownProd m ρ c
  | .sigCr _ _ => ownProd m ρ c
  | .waitCr _ _ => ownProd m ρ c

theorem put_eq {o : Op} (ho : o.isComp = true) (f : outBuf F c) :
    put m ρ c o f = (oM.access (rectOf c o)).write (Elt F) f (prodOf m ρ c o) Finset.univ := by
  cases o <;> first | rfl | exact Bool.noConfusion ho

/-- The first row of a product and the number of its rows. -/
def rowLo (o : Op) : ℕ :=
  match o with
  | .compS d j => 256 * (origin d ((stripNo j).val + 1) c).val
  | .compH d => 256 * (origin d 8 c).val + 128 * (lastHalf d).val
  | _ => 256 * c.val
def rowNum (o : Op) : ℕ :=
  match o with
  | .compH _ => 128
  | _ => 256

theorem rect_off (o : Op) : (rectOf c o).off = ![rowLo c o, 0] := by
  cases o with
  | compS d j => exact stripOff_eq d (stripNo j) c
  | compH d => exact halfOff_eq d c
  | _ => exact k0_off1_eq c
theorem rect_size (o : Op) : (rectOf c o).size = ![rowNum o, 128] := by cases o <;> rfl
theorem rect_stride (o : Op) (a : Fin 2) : (rectOf c o).stride a = 1 := by cases o <;> rfl

/-- Every row is in some product. -/
theorem rows_covered : ∀ (c : Dev nD) (b : Fin 32), ∃ o ∈ comps, rowLo c o ≤ 128 * b.val ∧ 128 * b.val + 128 ≤ rowLo c o + rowNum o := by
  decide +kernel
theorem comps_isComp : ∀ o ∈ comps, o.isComp = true := fun o ho => (List.mem_filter.mp ho).2
theorem comps_length : comps.length = 17 := by decide +kernel

theorem index_covered (i : S4096x128.Idx) : ∃ o ∈ comps, ∃ x, (rectOf c o).emb x = i := by
  have h0 : (i 0).val < 4096 := (i 0).isLt
  have h1 : (i 1).val < 128 := (i 1).isLt
  obtain ⟨o, ho, hlo, hhi⟩ := rows_covered c ⟨(i 0).val / 128, by omega⟩
  have hlo : rowLo c o ≤ 128 * ((i 0).val / 128) := hlo
  have hhi : 128 * ((i 0).val / 128) + 128 ≤ rowLo c o + rowNum o := hhi
  refine ⟨o, ho, ?_⟩
  have hs := rect_size c o
  refine ⟨fun a => ⟨(i a).val - (![rowLo c o, 0] : Fin 2 → ℕ) a, ?_⟩, ?_⟩
  · show _ < (rectOf c o).size a
    rw [hs]
    fin_cases a
    · show (i 0).val - rowLo c o < rowNum o; omega
    · show (i 1).val - 0 < 128; omega
  · funext a
    apply Fin.ext
    show (rectOf c o).off a + (rectOf c o).stride a * ((i a).val - (![rowLo c o, 0] : Fin 2 → ℕ) a) = (i a).val
    rw [rect_stride, rect_off]
    fin_cases a
    · show rowLo c o + 1 * ((i 0).val - rowLo c o) = (i 0).val; omega
    · show 0 + 1 * ((i 1).val - 0) = (i 1).val; omega

/-! ## Independence -/

/-- A product keeps two buffers equal where they are, and makes them equal where it goes. -/
theorem put_stays {o : Op} (ho : o.isComp = true) {f g : outBuf F c} {i : S4096x128.Idx} (h : f i = g i) : put m ρ c o f i = put m ρ c o g i := by
  rw [put_eq m ρ c ho, put_eq m ρ c ho]
  unfold View.write
  split
  · split
    · rfl
    · exact h
  · exact h
theorem put_hits {o : Op} (ho : o.isComp = true) (f g : outBuf F c) {i : S4096x128.Idx} (h : ∃ x, (rectOf c o).emb x = i) : put m ρ c o f i = put m ρ c o g i := by
  obtain ⟨x, rfl⟩ := h
  rw [put_eq m ρ c ho, put_eq m ρ c ho]
  exact ((oM.access (rectOf c o)).write_emb_of_mem f (prodOf m ρ c o) (x := x) (Finset.mem_univ _)).trans
    ((oM.access (rectOf c o)).write_emb_of_mem g (prodOf m ρ c o) (x := x) (Finset.mem_univ _)).symm

theorem puts_agree : ∀ (l : List Op), (∀ o ∈ l, o.isComp = true) → ∀ (f g : outBuf F c) (i : S4096x128.Idx),
    (f i = g i ∨ ∃ o ∈ l, ∃ x, (rectOf c o).emb x = i) →
    l.foldl (fun h o => put m ρ c o h) f i = l.foldl (fun h o => put m ρ c o h) g i
  | [], _, f, g, i, h => h.elim id fun ⟨o, ho, _⟩ => absurd ho List.not_mem_nil
  | o :: l, hl, f, g, i, h => by
    rw [List.foldl_cons, List.foldl_cons]
    have hc := hl o List.mem_cons_self
    refine puts_agree l (fun o' ho' => hl o' (List.mem_cons_of_mem _ ho')) _ _ i ?_
    rcases h with h | ⟨o', ho', hx⟩
    · exact Or.inl (put_stays m ρ c hc h)
    · rcases List.mem_cons.mp ho' with rfl | ho'
      · exact Or.inl (put_hits m ρ c hc f g hx)
      · exact Or.inr ⟨o', ho', hx⟩

/-- The result does not depend on what the buffer held. -/
theorem out_indep (f g : outBuf F c) : outAfter m ρ c f 17 = outAfter m ρ c g 17 := by
  unfold outAfter
  rw [List.take_of_length_le (by rw [comps_length])]
  funext i
  exact puts_agree m ρ c comps comps_isComp f g i (Or.inr (index_covered c i))

/-- The result. -/
def outAt : outBuf F c := outAfter m ρ c ((s₀ m ρ).mem (oM.view.loc (c : Thread nD τ))) 17

/-- A buffer every product leaves as it is is the result. -/
theorem outAt_eq (t : outBuf F c) (h : ∀ o ∈ comps, put m ρ c o t = t) : outAt m ρ c = t := by
  unfold outAt
  rw [out_indep m ρ c _ t]
  unfold outAfter
  rw [List.take_of_length_le (by rw [comps_length])]
  have : ∀ l : List Op, (∀ o ∈ l, o ∈ comps) → l.foldl (fun g o => put m ρ c o g) t = t := by
    intro l
    induction l with
    | nil => intro _; rfl
    | cons o l ih =>
      intro hl
      rw [List.foldl_cons, h o (hl o List.mem_cons_self)]
      exact ih fun o' ho' => hl o' (List.mem_cons_of_mem _ ho')
  exact this comps fun _ ho => ho

end Cert.Gather
-- ==== Proof.Silu.lean ====
/-
The products over the reals: entry by entry, the activation of a sum over the inner axis.
-/
module

public import proofs.«01_k».proof.Proof.Cover
public import Idealize.ShloMosaic.Lib.MatmulPlain
public import Idealize.ShloMosaic.Lib.StackMember
public import Idealize.ShloMosaic.Lib.IdealHost

@[expose] public section

set_option maxRecDepth 65536

noncomputable section

namespace Cert.Gather

open Cert.KernelIdeal Cert.KernelIdeal.Gen
open Idealize.ShloMosaic Idealize.ShloMosaic.TcCoe Idealize.ShloMosaic.ValueIdx

/-- The activation, y / (1 + e⁻ʸ). -/
def silu (y : EReal) : EReal := Ideal.div y (1 + Ideal.exp (-y))

theorem exp_nonneg (x : EReal) : 0 ≤ Ideal.exp x := by
  induction x with
  | bot => exact le_refl _
  | top => exact le_top
  | coe r => exact EReal.coe_nonneg.mpr (Real.exp_pos r).le

theorem one_add_exp_ne (x : EReal) : 1 + Ideal.exp x ≠ 0 :=
  ne_of_gt (lt_of_lt_of_le zero_lt_one (le_add_of_nonneg_right (exp_nonneg x)))

/-- The kernel's form of it, y times the logistic function of y. -/
theorem mul_logistic (y : Ideal .f32) : FloatOps.mulf y (FloatOps.logistic y) = silu y := by
  show (y * Ideal.div 1 (1 + Ideal.exp (-y)) : EReal) = Ideal.div y (1 + Ideal.exp (-y))
  unfold Ideal.div
  rw [if_neg (one_add_exp_ne _), if_neg (one_add_exp_ne _), one_mul]

/-! ## The three kinds of product -/

theorem zero_word : (FloatOps.ofBits .f32 0x00000000#32 : Ideal .f32) = (0 : EReal) := by
  exact Ideal.ofBits_zero_f32

/-- A product onto zeros, entry by entry. -/
theorem product_apply {M K N : ℕ} (v : FVec Ideal ⟨2, ![M, K]⟩ .f32) (u : FVec Ideal ⟨2, ![K, N]⟩ .f32) (a : Fin M) (b : Fin N) :
    FloatOps.matmul (F := Ideal) (DotDims.plain M K N) none v u (constant ⟨2, ![M, N]⟩ .f32 0x00000000#32) (ix2 a b)
      = (∑ k : Fin K, v (ix2 a k) * u (ix2 k b) : EReal) := by
  rw [Ideal.matmul_plain_apply]
  exact (congrArg (· + (∑ k : Fin K, v (ix2 a k) * u (ix2 k b) : EReal)) zero_word).trans (zero_add _)

theorem pay1_apply (v : Vec Ideal S256x4096 .f32) (u : Vec Ideal S4096x128 .f32) (a : Fin 256) (b : Fin 128) :
    k0_pay1 (F := Ideal) v u (ix2 a b) = silu (∑ k : Fin 4096, v (ix2 a k) * u (ix2 k b)) := by
  unfold k0_pay1
  rw [shapeCast_self, shapeCast_self]
  exact (mul_logistic _).trans (congrArg silu (product_apply (M := 256) (K := 4096) (N := 128) v u a b))

theorem pay2_apply (v : Vec Ideal S1x256x4096 .f32) (u : Vec Ideal S4096x128 .f32) (a : Fin 256) (b : Fin 128) :
    k0_pay2 (F := Ideal) v u (ix2 a b) = silu (∑ k : Fin 4096, v (ix3 0 a k) * u (ix2 k b)) := by
  have hv : ∀ k : Fin 4096, shapeCast S256x4096 v shapeCasts_S1x256x4096_S256x4096 (ix2 a k) = v (ix3 0 a k) := fun k =>
    congrArg v (reshapeEquiv_ix2_1ab (a := 256) (b := 4096) _ a k)
  unfold k0_pay2
  rw [shapeCast_self (s := S4096x128)]
  refine (mul_logistic _).trans (congrArg silu ((product_apply (M := 256) (K := 4096) (N := 128) _ u a b).trans ?_))
  exact Finset.sum_congr rfl fun k _ => congrArg (fun z : EReal => z * u (ix2 k b)) (hv k)

theorem pay17_apply (v : Vec Ideal S1x128x4096 .f32) (u : Vec Ideal S4096x128 .f32) (a : Fin 128) (b : Fin 128) :
    k0_pay17 (F := Ideal) v u (ix2 a b) = silu (∑ k : Fin 4096, v (ix3 0 a k) * u (ix2 k b)) := by
  have hv : ∀ k : Fin 4096, shapeCast S128x4096 v shapeCasts_S1x128x4096_S128x4096 (ix2 a k) = v (ix3 0 a k) := fun k =>
    congrArg v (reshapeEquiv_ix2_1ab (a := 128) (b := 4096) _ a k)
  unfold k0_pay17
  rw [shapeCast_self (s := S4096x128)]
  refine (mul_logistic _).trans (congrArg silu ((product_apply (M := 128) (K := 4096) (N := 128) _ u a b).trans ?_))
  exact Finset.sum_congr rfl fun k _ => congrArg (fun z : EReal => z * u (ix2 k b)) (hv k)

end Cert.Gather
-- ==== Proof.Value.lean ====
/-
The result over the reals, entry by entry: the activation of a row of x times a column of the device's weights.
-/
module

public import proofs.«01_k».proof.Proof.Silu
public import proofs.«01_k».proof.Proof.Contents

@[expose] public section

set_option maxRecDepth 65536

noncomputable section

namespace Cert.Gather

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)
variable (c : Dev nD)

/-! ## The closed form -/

/-- The device that holds a row of x, and the row's number there. -/
def rowDev (n : Fin 4096) : Dev nD := (⟨n.val / 256, by have := n.isLt; omega⟩ : Fin 16)
def rowIn (n : Fin 4096) : Fin 256 := ⟨n.val % 256, Nat.mod_lt _ (by decide)⟩

/-- The entries of a device's blocks. -/
def xAt (o : Dev nD) (a : Fin 256) (k : Fin 4096) : EReal := xBlk m ρ o (ix2 a k : S256x4096.Idx)
def wAt (k : Fin 4096) (b : Fin 128) : EReal := wBlk m ρ c (ix2 k b : S4096x128.Idx)

/-- One entry: row `a` of device `o`'s block of x times column `b` of device `c`'s weights, activated. -/
def entry (o : Dev nD) (a : Fin 256) (b : Fin 128) : EReal :=
  silu (∑ k : Fin 4096, xAt m ρ o a k * wAt m ρ c k b)

/-- The whole result of a device. -/
def result : outBuf Ideal c := fun i : S4096x128.Idx => entry m ρ c (rowDev (i 0)) (rowIn (i 0)) (i 1)

theorem result_at (o : Dev nD) (a : Fin 256) (b : Fin 128) (i : S4096x128.Idx) (h0 : (i 0).val = 256 * o.val + a.val) (h1 : (i 1).val = b.val) :
    result m ρ c i = entry m ρ c o a b := by
  have e0 : rowDev (i 0) = o := Fin.ext (by show (i 0).val / 256 = o.val; omega)
  have e1 : rowIn (i 0) = a := Fin.ext (by show (i 0).val % 256 = a.val; omega)
  have e2 : i 1 = b := Fin.ext h1
  show entry m ρ c (rowDev (i 0)) (rowIn (i 0)) (i 1) = _
  rw [e0, e1, e2]

/-! ## What a product reads -/

theorem read_x : xM.view.readAt (Elt Ideal) xRect.toLoadRect (xBlk m ρ c) = xBlk m ρ c :=
  Memref.readAt_unit_zero (Elt Ideal) cc0_stg0_0 (by funext a; fin_cases a <;> rfl) _ _
theorem read_w : wM.view.readAt (Elt Ideal) wRect.toLoadRect (wBlk m ρ c) = wBlk m ρ c :=
  Memref.readAt_unit_zero (Elt Ideal) cc0_stg1_0 (by funext a; fin_cases a <;> rfl) _ _

/-- A slot of a filled landing buffer. -/
theorem read_strip (d : Bool) (o : Dev nD) (s : Fin 4) (a : Fin 256) (k : Fin 4096) :
    (commM d).view.readAt (Elt Ideal) (slotRect s).toLoadRect (slotBuf m ρ d c o) (ix3 0 a k) = xBlk m ρ o (ix2 a k) := by
  have e : filled (xBlk m ρ o) ((slotRect s).emb (ix3 0 a k)) = xBlk m ρ o (ix2 a k) := by
    refine congrArg (xBlk m ρ o) ?_
    funext b
    apply Fin.ext
    fin_cases b
    · show 0 + 1 * a.val = a.val; omega
    · show 0 + 1 * k.val = k.val; omega
  cases d <;> exact e

/-- Half a slot of it. -/
theorem read_piece (d : Bool) (o : Dev nD) (p : Fin 2) (a : Fin 128) (k : Fin 4096) :
    (commM d).view.readAt (Elt Ideal) (pieceRect 0 p).toLoadRect (slotBuf m ρ d c o) (ix3 0 a k)
      = xBlk m ρ o (ix2 (⟨128 * p.val + a.val, by omega⟩ : Fin 256) k) := by
  have e : filled (xBlk m ρ o) ((pieceRect 0 p).emb (ix3 0 a k)) = xBlk m ρ o (ix2 (⟨128 * p.val + a.val, by omega⟩ : Fin 256) k) := by
    refine congrArg (xBlk m ρ o) ?_
    funext b
    apply Fin.ext
    fin_cases b
    · show 128 * p.val + 1 * a.val = 128 * p.val + a.val; omega
    · show 0 + 1 * k.val = k.val; omega
  cases d <;> exact e

/-! ## The products -/

theorem ownProd_apply (a : Fin 256) (b : Fin 128) : ownProd m ρ c (ix2 a b) = entry m ρ c c a b := by
  unfold ownProd
  rw [read_x, read_w]
  exact pay1_apply _ _ a b
theorem stripProd_apply (d : Bool) (j : ℕ) (a : Fin 256) (b : Fin 128) : stripProd m ρ c d j (ix2 a b) = entry m ρ c (origin d j c) a b := by
  unfold stripProd
  rw [read_w]
  refine (pay2_apply _ _ a b).trans (congrArg silu (Finset.sum_congr rfl fun k _ => ?_))
  exact congrArg (fun z : EReal => z * wAt m ρ c k b) (read_strip m ρ c d _ _ a k)
theorem halfProd_apply (d : Bool) (a : Fin 128) (b : Fin 128) :
    halfProd m ρ c d (ix2 a b) = entry m ρ c (origin d 8 c) (⟨128 * (lastHalf d).val + a.val, by omega⟩ : Fin 256) b := by
  unfold halfProd
  rw [read_w]
  refine (pay17_apply _ _ a b).trans (congrArg silu (Finset.sum_congr rfl fun k _ => ?_))
  exact congrArg (fun z : EReal => z * wAt m ρ c k b) (read_piece m ρ c d _ _ a k)

/-! ## The result holds them all -/

/-- A product that says what the buffer already holds leaves it. -/
theorem put_fix {o : Op} (ho : o.isComp = true) (t : outBuf Ideal c) (h : ∀ x, prodOf m ρ c o x = t ((rectOf c o).emb x)) : put m ρ c o t = t := by
  rw [put_eq m ρ c ho]
  funext i
  by_cases hi : i ∈ (oM.access (rectOf c o)).setOn Finset.univ
  · obtain ⟨x, hx, rfl⟩ := Finset.mem_map.mp hi
    exact ((oM.access (rectOf c o)).write_emb_of_mem t (prodOf m ρ c o) hx).trans (h x)
  · exact (oM.access (rectOf c o)).write_of_not_mem t (prodOf m ρ c o) Finset.univ hi

/-- The rows of the strips are those of hops one to seven. -/
def stripFits : Op → Bool
  | .compS _ j => decide (1 ≤ j ∧ j ≤ 7)
  | _ => true
theorem strips_fit : ∀ o ∈ comps, stripFits o = true := by decide +kernel

theorem rect_val (o : Op) (x : (rectOf c o).shape.Idx) (a : Fin 2) : ((rectOf c o).emb x a).val = (![rowLo c o, 0] : Fin 2 → ℕ) a + (x a).val := by
  show (rectOf c o).off a + (rectOf c o).stride a * (x a).val = _
  rw [rect_stride, rect_off, Nat.one_mul]

theorem result_fix : ∀ o ∈ comps, put m ρ c o (result m ρ c) = result m ρ c := by
  intro o ho
  have hf := strips_fit o ho
  have hc := comps_isComp o ho
  refine put_fix m ρ c hc _ fun x => ?_
  have h0 := rect_val c o x 0
  have h1 := rect_val c o x 1
  cases o with
  | compX =>
    obtain ⟨a, b, rfl⟩ : ∃ (a : Fin 256) (b : Fin 128), x = ix2 a b := ⟨x 0, x 1, eq_ix2 x⟩
    exact (ownProd_apply m ρ c a b).trans (result_at m ρ c c a b _ h0 (h1.trans (Nat.zero_add _))).symm
  | compS d j =>
    obtain ⟨a, b, rfl⟩ : ∃ (a : Fin 256) (b : Fin 128), x = ix2 a b := ⟨x 0, x 1, eq_ix2 x⟩
    have hj := stripNo_val (of_decide_eq_true hf)
    refine (stripProd_apply m ρ c d j a b).trans (result_at m ρ c _ a b _ (h0.trans ?_) (h1.trans (Nat.zero_add _))).symm
    show 256 * (origin d ((stripNo j).val + 1) c).val + a.val = _
    rw [hj]
  | compH d =>
    obtain ⟨a, b, rfl⟩ : ∃ (a : Fin 128) (b : Fin 128), x = ix2 a b := ⟨x 0, x 1, eq_ix2 x⟩
    refine (halfProd_apply m ρ c d a b).trans (result_at m ρ c _ _ b _ (h0.trans ?_) (h1.trans (Nat.zero_add _))).symm
    exact Nat.add_assoc _ _ _
  | _ => exact Bool.noConfusion hc

/-- The result of a device. -/
theorem out_result : outAt m ρ c = result m ρ c := outAt_eq m ρ c _ (result_fix m ρ c)

end Cert.Gather
-- ==== Proof.Steps.lean ====
/-
One rule per operation of the protocol, over the tokens.
-/
module

public import proofs.«01_k».proof.Proof.Tokens

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (𝒱 : Variants) (c : Dev nD)

/-- The rule of an operation made when `n` payments are made. -/
def Rule (o : Op) (n : ℕ) : Prop :=
  ∀ (k : Prog (TpuEff nD τ sig (Elt F) Λ₀ .tc) PUnit) (Ψ : PUnit → sProp 𝕄), iprop(shared m ρ κ ιs ∗ owing c n ∗ held m ρ c o.pre)
    ⊢ iprop(((owing c (o.after n) ∗ held m ρ c o.post) -∗ wp frame (wpE (defs₀ (F := F)) 𝒱 (c : Thread nD τ) none) Set.univ k Ψ)
        -∗ wp frame (wpE (defs₀ (F := F)) 𝒱 (c : Thread nD τ) none) Set.univ (den c o k) Ψ)

/-! ## Numbers -/

theorem hop_parts (j : ℕ) : 4 * (j / 4) + (slotOf j).val = j := by unfold slotOf; show 4 * (j / 4) + j % 4 = j; omega
theorem slotOf_succ (j : ℕ) : slotOf ((slotOf j).val + 1) = slotOf (j + 1) := Fin.ext (by unfold slotOf; show (j % 4 + 1) % 4 = (j + 1) % 4; omega)
theorem slotOf_add_four (j : ℕ) : slotOf (j + 4) = slotOf j := Fin.ext (by unfold slotOf; show (j + 4) % 4 = j % 4; omega)
theorem has_lt {d : Bool} {j : ℕ} {p : Fin 2} (h : has d j p = true) : j < 8 := by
  unfold has at h
  rcases Bool.or_eq_true_iff.mp h with h | h
  · have := of_decide_eq_true h; omega
  · have := of_decide_eq_true (Bool.and_eq_true_iff.mp h).1; omega

theorem duty_snd {d : Bool} {j : ℕ} {p : Fin 2} (h : has d j p = true) : duty (.snd d (slotOf j) p) (j / 4) = {0} := by
  unfold duty; simp only [hop_parts]; rw [if_pos h]
theorem duty_rcv {d : Bool} {j : ℕ} {p : Fin 2} (h : has d j p = true) : duty (.rcv d (slotOf j) p) (j / 4) = {0} := by
  unfold duty; simp only [hop_parts]; rw [if_pos h]
theorem carries_snd (d : Bool) (j : ℕ) (p : Fin 2) (i : ℕ) : carries m ρ c (.snd d (slotOf j) p) (j / 4) i = lentPts m ρ c d j p := by
  unfold carries; simp only [hop_parts]
theorem carries_rcv (d : Bool) (j : ℕ) (p : Fin 2) (i : ℕ) :
    carries m ρ c (.rcv d (slotOf j) p) (j / 4) i = slotPts m ρ c d (slotOf (j + 1)) p fullShare (origin d (j + 1) c) := by
  unfold carries; simp only [hop_parts]

theorem after_pays {o : Op} {n : ℕ} (h : o.pays = true) : o.after n = n + 1 := by unfold Op.after; rw [h]; rfl
theorem after_waits {o : Op} {n : ℕ} (h : o.pays = false) : o.after n = n := by unfold Op.after; rw [h]; rfl
theorem okAt_fits {o : Op} {n : ℕ} (h : o.okAt n = true) : o.fits = true := (Bool.and_eq_true_iff.mp h).1
theorem okAt_pays {o : Op} {n : ℕ} (h : o.okAt n = true) (hp : o.pays = true) : payOps.drop n = o :: payOps.drop (n + 1) := by
  have := (Bool.and_eq_true_iff.mp h).2
  rw [hp] at this
  exact of_decide_eq_true (Bool.and_eq_true_iff.mp this).2
theorem okAt_level {o : Op} {n : ℕ} (h : o.okAt n = true) (hp : o.pays = false) : o.level ≤ n := by
  have := (Bool.and_eq_true_iff.mp h).2
  rw [hp] at this
  exact of_decide_eq_true this

/-! ## The barrier -/

theorem den_sigBar (d : Bool) (k : Prog (TpuEff nD τ sig (Elt F) Λ₀ .tc) PUnit) :
    den c (.sigBar d) k = .op (.semSignal (nbr (!d) c : Thread nD τ) barSem 1) fun _ => k := by rw [← peerDev_eq]; rfl
theorem quads_shift : quads.Perm (quads.map fun y => (slotOf (y.1.val + 1), y.2)) := by decide
theorem pre_sigBar (d : Bool) : held m ρ c (Op.sigBar d).pre
    ⊢ iprop(dutyTok ER (cell (nbr (!d) c) .bar) 0 (barDuty d) ∗ sepAll quads fun y => slotAny c d y.1 y.2) := by
  unfold held Op.pre
  rw [sepAll_cons, sepAll_map]
  exact .rfl

theorem pay_bar (d : Bool) : (sepAll quads fun y => slotAny c d y.1 y.2) ⊢ (sched m ρ).payload ((nbr (!d) c : Thread nD τ), .reg barSem) 0 (barDuty d) := by
  have hbd : barDir (barDuty d) = d := by cases d <;> rfl
  show _ ⊢ (sched m ρ).payload (cell (nbr (!d) c) .bar) 0 (barDuty d)
  rw [payload_at]
  unfold carries
  rw [hbd, nbr_nbr]
  refine (sepAll_perm quads_shift fun y => slotAny c d y.1 y.2).trans ?_
  rw [sepAll_map]

theorem rule_sigBar (d : Bool) {n : ℕ} (h : (Op.sigBar d).okAt n = true) : Rule m ρ κ ιs 𝒱 c (.sigBar d) n := by
  intro k Ψ
  rw [after_pays (o := .sigBar d) rfl, den_sigBar]
  have hd : barDuty d ∈ (sched m ρ).duties (cell (nbr (!d) c) .bar) 0 := by
    rw [duties_at]; cases d <;> decide
  unfold owing
  iintro ⟨#Hsh, ⟨%W, HO⟩, Hpre⟩ Hk
  ihave Hpre := pre_sigBar m ρ c d $$ Hpre
  icases Hpre with ⟨Htok, Hq⟩
  iapply (Rounds.wp_signal 𝒱 ER (sched m ρ) (c : Thread nD τ) none (dst := (nbr (!d) c : Thread nD τ)) (κ := κ (nbr (!d) c, .bar))
      (d := barDuty d) hd ((amount_at m ρ (nbr (!d) c) .bar 0 _).trans rfl) (time (.sigBar d)) (owedAfter c (n + 1)) (owedAfter_step (okAt_pays h rfl)))
    $$ [HO Htok Hq]
  · isplitr; · iapply (shared_cell m ρ κ ιs (nbr (!d) c) .bar); iexact Hsh
    isplitl [HO]; · iexact HO
    isplitl [Htok]; · iexact Htok
    isplitl [Hq]
    · iapply (pay_bar m ρ c d); iexact Hq
    · iapply (shared_reached m ρ κ ιs (nbr (!d) c) .bar); iexact Hsh
  iintro HO
  iapply Hk
  isplitl [HO]; · iexists W; iexact HO
  iempintro

/-- The pieces the barrier brings are the first landing places of both directions. -/
theorem peers_intro (d : Bool) : iprop(shared m ρ κ ιs ∗ sepAll quads fun y => slotAny (nbr d c) d (slotOf (y.1.val + 1)) y.2)
    ⊢ held m ρ c (quads.map fun x => Res.peer d x.1 x.2) := by
  unfold held
  rw [sepAll_map]
  refine sepAll_frame fun y _ => ?_
  have e : y.1.val / 4 = 0 := by omega
  show _ ⊢ iprop(slotAny (nbr d c) d (slotOf (y.1.val + 1)) y.2 ∗ reached ER (cell (nbr d c) (.rcv d (slotOf y.1.val) y.2)) (y.1.val / 4))
  rw [e]
  iintro ⟨#Hsh, H⟩
  isplitl [H]; · iexact H
  iapply (shared_reached m ρ κ ιs (nbr d c) (.rcv d (slotOf y.1.val) y.2)); iexact Hsh

theorem bar_rest : bigSep ((sched m ρ).duties (cell c .bar) 0 \ ∅) (fun i => (sched m ρ).payload (cell c .bar) 0 i)
    ⊢ iprop((sepAll quads fun y => slotAny (nbr true c) true (slotOf (y.1.val + 1)) y.2)
        ∗ sepAll quads fun y => slotAny (nbr false c) false (slotOf (y.1.val + 1)) y.2) := by
  have e : (sched m ρ).duties (cell c .bar) 0 \ ∅ = {1, 0} := by rw [duties_at]; decide
  rw [e, BI.bigSep_insert (by decide), BI.bigSep_singleton]
  show iprop((sched m ρ).payload (cell c .bar) 0 1 ∗ (sched m ρ).payload (cell c .bar) 0 0) ⊢ _
  rw [payload_at, payload_at]
  exact .rfl

theorem post_waitBar : iprop(atPos ER (cell c .bar) 1 ∅ 0 ∗ held m ρ c (quads.map fun x => Res.peer true x.1 x.2) ∗ held m ρ c (quads.map fun x => Res.peer false x.1 x.2))
    ⊢ held m ρ c Op.waitBar.post := by
  have e : Op.waitBar.post = Res.bdone :: ((quads.map fun x => Res.peer true x.1 x.2) ++ ((quads.map fun x => Res.peer false x.1 x.2) ++ [])) := rfl
  rw [e]
  unfold held
  rw [sepAll_cons, List.append_nil]
  exact BIClass.sep_mono .rfl (sepAll_append _ _ _).2

theorem rule_waitBar {n : ℕ} (hn : n ≤ 40) (h : Op.waitBar.okAt n = true) : Rule m ρ κ ιs 𝒱 c .waitBar n := by
  intro k Ψ
  rw [after_waits (o := .waitBar) rfl]
  have hlev : 2 ≤ n := okAt_level h rfl
  show _ ⊢ iprop(_ -∗ wp frame (wpE (defs₀ (F := F)) 𝒱 (c : Thread nD τ) none) Set.univ (.op (.semWait barSem 2) fun _ => k) Ψ)
  unfold owing
  iintro ⟨#Hsh, ⟨%W, HO⟩, Hpre⟩ Hk
  ihave Hpre := (show held m ρ c Op.waitBar.pre ⊢ iprop(atPos ER (cell c .bar) 0 ∅ 0 ∗ cred (tallyOn (cell c .bar) (Finsupp.single 1 1 + Finsupp.single 2 1)) ∗ emp) from .rfl) $$ Hpre
  icases Hpre with ⟨Hat, Hc, -⟩
  iapply (Rounds.wp_wait_rest 𝒱 ER (sched m ρ) (c : Thread nD τ) none (κ := κ (c, .bar))
      (wpE_semWait_eq 𝒱 (c : Thread nD τ) none Set.univ) (Set.mem_univ _) {(.reg barSem, 1), (.reg barSem, 2)}
      (cr := Finsupp.single 1 1 + Finsupp.single 2 1) (O := owedAfter c n) (W := W) (R := 0) (m := 0) (T := ∅)
      ((expect_at m ρ c .bar 0).trans (by decide)).symm (by rw [Util.total_add, Util.total_single, Util.total_single])
      (by
        intro p hp
        obtain ⟨i, hi, rfl⟩ := Finset.mem_image.mp hp
        have hi := Finsupp.support_add hi
        rcases Finset.mem_union.mp hi with hi | hi
        · rw [Finset.mem_singleton.mp (Finsupp.support_single_subset hi)]; exact Finset.mem_insert_self _ _
        · rw [Finset.mem_singleton.mp (Finsupp.support_single_subset hi)]; exact Finset.mem_insert_of_mem (Finset.mem_singleton_self _))) $$ [Hc HO Hat]
  · isplitr; · iapply (shared_cell m ρ κ ιs c .bar); iexact Hsh
    isplitl [Hc]; · iexact Hc
    isplitl [HO]; · iexact HO
    isplitr
    · iapply (mayOwe_after c n (by omega) {(.reg barSem, 1), (.reg barSem, 2)} (fun p hp => by
        rcases Finset.mem_insert.mp hp with rfl | hp
        · show 1 ≤ n; omega
        · rw [Finset.mem_singleton.mp hp]; exact hlev))
      iapply (shared_lev m ρ κ ιs); iexact Hsh
    iexact Hat
  iintro ⟨HO, Hat, -, Hpay⟩
  ihave Hp := bar_rest m ρ c $$ Hpay
  icases Hp with ⟨H1, H0⟩
  iapply Hk
  isplitl [HO]; · iexists (W ∪ {(.reg barSem, 1), (.reg barSem, 2)}); iexact HO
  ihave H1 := peers_intro m ρ κ ιs c true $$ [H1]
  · isplitr; · iexact Hsh
    iexact H1
  ihave H0 := peers_intro m ρ κ ιs c false $$ [H0]
  · isplitr; · iexact Hsh
    iexact H0
  iapply (post_waitBar m ρ c)
  isplitl [Hat]; · iexact Hat
  isplitl [H1] <;> iassumption

end Cert.Gather
-- ==== Proof.Products.lean ====
/-
The rules of the products: a load of what has come, of the weights and of the result's rows, then a store.
-/
module

public import proofs.«01_k».proof.Proof.Steps

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (𝒱 : Variants) (c : Dev nD)

theorem x_univ : (xM.view.set : Finset (cc0_stg0_0 : Ref sig .tc).ty.Idx) = Finset.univ := View.set_whole _
theorem w_univ : (wM.view.set : Finset (cc0_stg1_0 : Ref sig .tc).ty.Idx) = Finset.univ := View.set_whole _
theorem o_univ : (oM.view.set : Finset (cc0_stg2_0 : Ref sig .tc).ty.Idx) = Finset.univ := View.set_whole _

/-- The part of a product after the first load. -/
theorem product_tail (r : Rect S4096x128) (pay : (S4096x128.Idx → Elt F .f32) → r.shape.Idx → Elt F .f32) (i : ℕ)
    (h : ∀ f : outBuf F c, outAfter m ρ c f (i + 1)
      = (oM.access r).write (Elt F) (outAfter m ρ c f i) (pay (wM.view.readAt (Elt F) wRect.toLoadRect (wBlk m ρ c))) Finset.univ)
    (hw : wM.view.LoadsAt wRect.toLoadRect) (hl : oM.view.LoadsAt r.toLoadRect) (hx : (oM.access r).Stores Finset.univ)
    (hm : (Finset.univ : Finset r.shape.Idx) = Finset.univ ∨ ∀ a, r.stride a = 1)
    (k : Prog (TpuEff nD τ sig (Elt F) Λ₀ .tc) PUnit) (Ψ : PUnit → sProp 𝕄) :
    iprop(wPts m ρ c ∗ outPts m ρ c i)
      ⊢ iprop(((wPts m ρ c ∗ outPts m ρ c (i + 1)) -∗ wp frame (wpE (defs₀ (F := F)) 𝒱 (c : Thread nD τ) none) Set.univ k Ψ)
        -∗ wp frame (wpE (defs₀ (F := F)) 𝒱 (c : Thread nD τ) none) Set.univ
            (.op (.load wM wRect.toLoadRect hw) fun u => .op (.load oM r.toLoadRect hl) fun _ => .op (.store oM r (pay u) Finset.univ hx hm) fun _ => k) Ψ) := by
  unfold wPts outPts
  iintro ⟨Hw, ⟨%f, Ho⟩⟩ Hk
  iapply (wp_load 𝒱 (c : Thread nD τ) none Set.univ (m := wM) (r := wRect.toLoadRect) (S := wM.view.set) (q := fullShare) (f := wBlk m ρ c)
    (by rw [w_univ]; exact Finset.subset_univ _)) $$ Hw
  iintro Hw
  iapply (wp_load 𝒱 (c : Thread nD τ) none Set.univ (m := oM) (r := r.toLoadRect) (S := oM.view.set) (q := fullShare) (f := outAfter m ρ c f i)
    (by rw [o_univ]; exact Finset.subset_univ _)) $$ Ho
  iintro Ho
  iapply (wp_store 𝒱 (c : Thread nD τ) none Set.univ (m := oM) (r := r) (S := oM.view.set) (f := outAfter m ρ c f i)
    (by rw [o_univ]; exact Finset.subset_univ _)) $$ Ho
  iintro Ho
  iapply Hk
  isplitl [Hw]; · iexact Hw
  iexists f
  iapply (Entails.of_eq (congrArg (fun g => (oM.view.loc (c : Thread nD τ) ↦[oM.view.set]{fullShare} g : sProp 𝕄)) (h f).symm))
  iexact Ho

theorem rule_compX {n : ℕ} (h : Op.compX.okAt n = true) : Rule m ρ κ ιs 𝒱 c .compX n := by
  intro k Ψ
  have hf : comps[0]? = some .compX := of_decide_eq_true (okAt_fits h)
  rw [after_waits (o := .compX) rfl]
  unfold den
  iintro ⟨-, HO, Hpre⟩ Hk
  ihave Hpre := (show held m ρ c Op.compX.pre ⊢ iprop((xM.view.loc (c : Thread nD τ) ↦[xM.view.set]{fullShare.right} xBlk m ρ c)
    ∗ wPts m ρ c ∗ outPts m ρ c 0 ∗ emp) from .rfl) $$ Hpre
  icases Hpre with ⟨Hx, Hw, Ho, -⟩
  iapply (wp_load 𝒱 (c : Thread nD τ) none Set.univ (m := xM) (r := xRect.toLoadRect) (S := xM.view.set) (q := fullShare.right) (f := xBlk m ρ c)
    (by rw [x_univ]; exact Finset.subset_univ _)) $$ Hx
  iintro Hx
  iapply (product_tail m ρ 𝒱 c (ownRect c) (k0_pay1 (xM.view.readAt (Elt F) xRect.toLoadRect (xBlk m ρ c))) 0 (fun f => outAfter_succ m ρ hf) _ _ _ _ k Ψ) $$ [Hw Ho]
  · isplitl [Hw] <;> iassumption
  iintro ⟨Hw, Ho⟩
  iapply Hk
  isplitl [HO]; · iexact HO
  iapply (show iprop((xM.view.loc (c : Thread nD τ) ↦[xM.view.set]{fullShare.right} xBlk m ρ c)
    ∗ wPts m ρ c ∗ outPts m ρ c 1 ∗ emp) ⊢ held m ρ c Op.compX.post from .rfl)
  isplitl [Hx]; · iexact Hx
  isplitl [Hw]; · iexact Hw
  isplitl [Ho]; · iexact Ho
  iempintro

/-- The two kept halves of a slot as one piece. -/
theorem kept_join (d : Bool) (s : Fin 4) (o : Dev nD) :
    iprop(slotPts m ρ c d s 0 fullShare.right o ∗ slotPts m ρ c d s 1 fullShare.right o)
      ⊣⊢ ((commM d).view.loc (c : Thread nD τ) ↦[(show Finset (Idx ((commM d).view.loc (c : Thread nD τ))) from (slotM d s 0).view.set) ∪ (slotM d s 1).view.set]{fullShare.right} slotBuf m ρ d c o) := by
  unfold slotPts
  exact (pointsTo_union (slot_disjoint d (by simp))).symm

theorem rule_compS (d : Bool) (j : ℕ) {n : ℕ} (h : (Op.compS d j).okAt n = true) : Rule m ρ κ ιs 𝒱 c (.compS d j) n := by
  intro k Ψ
  have hf : comps[(Op.compS d j).nth]? = some (.compS d j) := of_decide_eq_true (Bool.and_eq_true_iff.mp (okAt_fits h)).2
  rw [after_waits (o := .compS d j) rfl]
  unfold den
  iintro ⟨-, HO, Hpre⟩ Hk
  ihave Hpre := (show held m ρ c (Op.compS d j).pre ⊢ iprop(slotPts m ρ c d (slotOf j) 0 fullShare.right (origin d j c) ∗ slotPts m ρ c d (slotOf j) 1 fullShare.right (origin d j c)
    ∗ wPts m ρ c ∗ outPts m ρ c (Op.compS d j).nth ∗ emp) from .rfl) $$ Hpre
  icases Hpre with ⟨Ha, Hb, Hw, Ho, -⟩
  ihave Hx := (kept_join m ρ c d (slotOf j) (origin d j c)).1 $$ [Ha Hb]
  · isplitl [Ha] <;> iassumption
  iapply (wp_load 𝒱 (c : Thread nD τ) none Set.univ (m := commM d) (r := (slotRect (slotOf j)).toLoadRect) (q := fullShare.right) (f := slotBuf m ρ d c (origin d j c))
    (load_slot_subset d (slotOf j))) $$ Hx
  iintro Hx
  iapply (product_tail m ρ 𝒱 c (stripRect d (stripNo j) c) (k0_pay2 ((commM d).view.readAt (Elt F) (slotRect (slotOf j)).toLoadRect (slotBuf m ρ d c (origin d j c))))
    (Op.compS d j).nth (fun f => outAfter_succ m ρ hf) _ _ _ _ k Ψ) $$ [Hw Ho]
  · isplitl [Hw] <;> iassumption
  iintro ⟨Hw, Ho⟩
  iapply Hk
  isplitl [HO]; · iexact HO
  ihave Hx := (kept_join m ρ c d (slotOf j) (origin d j c)).2 $$ Hx
  icases Hx with ⟨Ha, Hb⟩
  iapply (show iprop(slotPts m ρ c d (slotOf j) 0 fullShare.right (origin d j c) ∗ slotPts m ρ c d (slotOf j) 1 fullShare.right (origin d j c)
    ∗ wPts m ρ c ∗ outPts m ρ c ((Op.compS d j).nth + 1) ∗ emp) ⊢ held m ρ c (Op.compS d j).post from .rfl)
  isplitl [Ha]; · iexact Ha
  isplitl [Hb]; · iexact Hb
  isplitl [Hw]; · iexact Hw
  isplitl [Ho]; · iexact Ho
  iempintro

theorem keep_last (d : Bool) : res m ρ c (.keep d 8 (bif d then 0 else 1)) = slotPts m ρ c d 0 (lastHalf d) fullShare.right (origin d 8 c) := by cases d <;> rfl

theorem rule_compH (d : Bool) {n : ℕ} (h : (Op.compH d).okAt n = true) : Rule m ρ κ ιs 𝒱 c (.compH d) n := by
  intro k Ψ
  have hf : comps[(Op.compH d).nth]? = some (.compH d) := of_decide_eq_true (okAt_fits h)
  rw [after_waits (o := .compH d) rfl]
  unfold den
  iintro ⟨-, HO, Hpre⟩ Hk
  ihave Hpre := (show held m ρ c (Op.compH d).pre ⊢ iprop(((commM d).view.loc (c : Thread nD τ) ↦[(show Finset (Idx ((commM d).view.loc (c : Thread nD τ))) from (slotM d 0 (lastHalf d)).view.set)]{fullShare.right} slotBuf m ρ d c (origin d 8 c))
    ∗ wPts m ρ c ∗ outPts m ρ c (Op.compH d).nth ∗ emp) from BIClass.sep_mono (Entails.of_eq (keep_last m ρ c d)) .rfl) $$ Hpre
  icases Hpre with ⟨Ha, Hw, Ho, -⟩
  iapply (wp_load 𝒱 (c : Thread nD τ) none Set.univ (m := commM d) (r := (pieceRect 0 (lastHalf d)).toLoadRect) (q := fullShare.right) (f := slotBuf m ρ d c (origin d 8 c))
    (load_piece_subset d 0 (lastHalf d))) $$ Ha
  iintro Ha
  iapply (product_tail m ρ 𝒱 c (halfRect d c) (k0_pay17 ((commM d).view.readAt (Elt F) (pieceRect 0 (lastHalf d)).toLoadRect (slotBuf m ρ d c (origin d 8 c))))
    (Op.compH d).nth (fun f => outAfter_succ m ρ hf) _ _ _ _ k Ψ) $$ [Hw Ho]
  · isplitl [Hw] <;> iassumption
  iintro ⟨Hw, Ho⟩
  iapply Hk
  isplitl [HO]; · iexact HO
  iapply (show iprop(((commM d).view.loc (c : Thread nD τ) ↦[(show Finset (Idx ((commM d).view.loc (c : Thread nD τ))) from (slotM d 0 (lastHalf d)).view.set)]{fullShare.right} slotBuf m ρ d c (origin d 8 c))
    ∗ wPts m ρ c ∗ outPts m ρ c ((Op.compH d).nth + 1) ∗ emp) ⊢ held m ρ c (Op.compH d).post from BIClass.sep_mono (Entails.of_eq (keep_last m ρ c d).symm) .rfl)
  isplitl [Ha]; · iexact Ha
  isplitl [Hw]; · iexact Hw
  isplitl [Ho]; · iexact Ho
  iempintro

end Cert.Gather
-- ==== Proof.Hops.lean ====
/-
The rules of a hop: starting it, waiting until its source is read, waiting until it has landed.
-/
module

public import proofs.«01_k».proof.Proof.Steps

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (𝒱 : Variants) (c : Dev nD)

/-! ## A hop's source -/

/-- The share a hop's source is lent at, and its contents. -/
def srcShare (d : Bool) : ℕ → PosShare TreeShare
  | 0 => xShare d
  | _ + 1 => fullShare.left
def srcBuf (d : Bool) (j : ℕ) (p : Fin 2) : Buf (Elt F) ((srcM d j p).view.loc (c : Thread nD τ)) :=
  match j with
  | 0 => xBlk m ρ c
  | j + 1 => slotBuf m ρ d c (origin d (j + 1) c)

theorem lentPts_eq (d : Bool) (j : ℕ) (p : Fin 2) :
    lentPts m ρ c d j p = ((srcM d j p).view.loc (c : Thread nD τ) ↦[(srcM d j p).view.set]{srcShare d j} srcBuf m ρ c d j p) := by
  cases j <;> rfl

theorem read_srcBuf (d : Bool) (j : ℕ) (p : Fin 2) :
    (srcM d j p).view.read (Elt F) (srcBuf m ρ c d j p) = (halfM p).view.read (Elt F) (xBlk m ρ (origin d j c)) := by
  cases j with
  | zero => rw [origin_zero]; rfl
  | succ j => exact read_src m ρ d c j p

theorem credit_slot (d : Bool) (s : Fin 4) (p : Fin 2) : (slotM d s p).view.dmaCredit = N := by
  unfold N
  cases d <;> rfl
theorem credit_src (d : Bool) (j : ℕ) (p : Fin 2) : (srcM d j p).view.dmaCredit = N := by
  unfold N
  cases j <;> cases d <;> rfl

/-- The landing leaves the sender's half block in the half slot. -/
theorem landing (c' : Dev nD) (d : Bool) (j : ℕ) (p : Fin 2) (hj : j < 8) (h : c' = nbr d c) (fd : Buf (Elt F) ((dstM d j p).view.loc (c' : Thread nD τ))) :
    ((dstM d j p).view.loc (c' : Thread nD τ) ↦[(dstM d j p).view.set]{fullShare}
        ((dstM d j p).view.write (Elt F) fd ((srcM d j p).view.read (Elt F) (srcBuf m ρ c d j p)) Finset.univ) : sProp 𝕄)
      ⊢ slotPts m ρ c' d (slotOf (j + 1)) p fullShare (origin d (j + 1) c') := by
  subst h
  unfold slotPts
  refine Entails.of_eq (pointsTo_congr fun i hi => ?_)
  rw [origin_succ hj, read_srcBuf, ← read_slot m ρ d (nbr d c) (origin d j c) (slotOf (j + 1)) p]
  exact (congrFun (View.write_read_eq_piecewise (v := (dstM d j p).view) (Val := Elt F) fd (slotBuf m ρ d (nbr d c) (origin d j c)) Finset.univ) i).trans
    (Finset.piecewise_eq_of_mem _ _ _ hi)

/-! ## The rules -/

theorem den_send (d : Bool) (j : ℕ) (p : Fin 2) (k : Prog (TpuEff nD τ sig (Elt F) Λ₀ .tc) PUnit) :
    den c (.send d j p) k = .op (.enqueueDma (srcM d j p) (.remote (nbr d c : Thread nD τ) (dstM d j p) (.dma (sndSem d (slotOf j) p))) (.dma (rcvSem d (slotOf j) p))
      (srcM_wordExact d j p) (slotM_wordExact d _ p) ⟨⟨rfl, Or.inl rfl⟩, trivial⟩) fun _ => k := by rw [← peerDev_eq]; rfl

theorem rule_send (d : Bool) (j : ℕ) (p : Fin 2) {n : ℕ} (h : (Op.send d j p).okAt n = true) : Rule m ρ κ ιs 𝒱 c (.send d j p) n := by
  intro k Ψ
  have hf : has d j p = true := okAt_fits h
  have hj := has_lt hf
  rw [after_pays (o := .send d j p) rfl, den_send]
  unfold owing
  iintro ⟨#Hsh, ⟨%W, HO⟩, Hpre⟩ Hk
  ihave Hpre := (show held m ρ c (Op.send d j p).pre ⊢ iprop(
      (dutyTok ER (cell c (.snd d (slotOf j) p)) (j / 4) 0 ∗ dutyTok ER (cell (nbr d c) (.rcv d (slotOf j) p)) (j / 4) 0)
      ∗ ((∃ f, (dstM d j p).view.loc (nbr d c : Thread nD τ) ↦[(dstM d j p).view.set]{fullShare} f) ∗ reached ER (cell (nbr d c) (.rcv d (slotOf j) p)) (j / 4))
      ∗ ((srcM d j p).view.loc (c : Thread nD τ) ↦[(srcM d j p).view.set]{srcShare d j} srcBuf m ρ c d j p) ∗ (atPos ER (cell c (.snd d (slotOf j) p)) (j / 4) ∅ 0 ∗ reached ER (cell c (.snd d (slotOf j) p)) (j / 4)) ∗ emp) from by rw [← lentPts_eq]; exact .rfl) $$ Hpre
  icases Hpre with ⟨⟨HtS, HtV⟩, ⟨⟨%fd, Hdst⟩, #HrV⟩, Hsrc, ⟨Hat, #HrS⟩, -⟩
  iapply (Rounds.wp_send_pointsTo 𝒱 ER (sched m ρ) (c : Thread nD τ) none (κ₁ := κ (c, .snd d (slotOf j) p)) (κ₂ := κ (nbr d c, .rcv d (slotOf j) p))
      (c' := (nbr d c : Thread nD τ)) (src := srcM d j p) (dst := dstM d j p) (q := srcShare d j) (fs := srcBuf m ρ c d j p) (fd := fd)
      (r₁ := j / 4) (r₂ := j / 4) (d₁ := 0) (d₂ := 0)
      (by rw [duties_at m ρ c (.snd d (slotOf j) p), duty_snd hf]; exact Finset.mem_singleton_self _)
      (by rw [duties_at m ρ (nbr d c) (.rcv d (slotOf j) p), duty_rcv hf]; exact Finset.mem_singleton_self _)
      (time (.send d j p)) 0 N (show (dstM d j p).view.amount (.dma (rcvSem d (slotOf j) p)) = N from credit_slot d (slotOf (j + 1)) p)
      (amount_at m ρ c (.snd d (slotOf j) p) _ _) (amount_at m ρ (nbr d c) (.rcv d (slotOf j) p) _ _)
      (owedAfter c (n + 1)) (owedAfter_step (okAt_pays h rfl)) (W := W)
      (Entails.of_eq ((lentPts_eq m ρ c d j p).symm.trans ((carries_snd m ρ c d j p 0).symm.trans (payload_at m ρ c (.snd d (slotOf j) p) (j / 4) 0).symm)))
      ((landing m ρ c (nbr d c) d j p hj rfl fd).trans
        (Entails.of_eq ((carries_rcv m ρ (nbr d c) d j p 0).symm.trans (payload_at m ρ (nbr d c) (.rcv d (slotOf j) p) (j / 4) 0).symm))))
    $$ [HtS HtV Hdst Hsrc HO]
  · isplitr; · iapply (shared_cell m ρ κ ιs c (.snd d (slotOf j) p)); iexact Hsh
    isplitr; · iapply (shared_cell m ρ κ ιs (nbr d c) (.rcv d (slotOf j) p)); iexact Hsh
    isplitl [Hsrc]; · iexact Hsrc
    isplitl [Hdst]; · iexact Hdst
    isplitl [HO]; · iexact HO
    isplitl [HtS]; · iexact HtS
    isplitr; · iexact HrS
    isplitl [HtV]; · iexact HtV
    iexact HrV
  iintro ⟨Hc, HO⟩
  iapply Hk
  isplitl [HO]; · iexists W; iexact HO
  iapply (show iprop(cred (tallyAt (cell c (.snd d (slotOf j) p)) 0 N) ∗ (atPos ER (cell c (.snd d (slotOf j) p)) (j / 4) ∅ 0 ∗ reached ER (cell c (.snd d (slotOf j) p)) (j / 4)) ∗ emp)
    ⊢ held m ρ c (Op.send d j p).post from .rfl)
  isplitl [Hc]; · iexact Hc
  isplitl [Hat]
  · isplitl [Hat]; · iexact Hat
    iexact HrS
  iempintro

/-- A wait for the one duty of a hop's semaphore. -/
theorem wait_hop (x : Cid) (sm : DmaSem sig) (hx : csem x = .dma sm) (r i n : ℕ) (hu : units x = N) (hd : duty x r = {0}) (hi : i ≤ n) (hn : n ≤ 40)
    {w : TpuEff nD τ sig (Elt F) Λ₀ .tc PUnit}
    (hw : ∀ K : PUnit → sProp 𝕄, wpE (defs₀ (F := F)) 𝒱 (c : Thread nD τ) none Set.univ w K = waitSpec (c : Thread nD τ) Set.univ (csem x) N K)
    (k : Prog (TpuEff nD τ sig (Elt F) Λ₀ .tc) PUnit) (Ψ : PUnit → sProp 𝕄) :
    iprop(shared m ρ κ ιs ∗ owing c n ∗ cred (tallyAt (cell c x) i N) ∗ atPos ER (cell c x) r ∅ 0)
      ⊢ iprop(((owing c n ∗ (atPos ER (cell c x) (r + 1) ∅ 0 ∗ reached ER (cell c x) (r + 1)) ∗ carries m ρ c x r 0)
            -∗ wp frame (wpE (defs₀ (F := F)) 𝒱 (c : Thread nD τ) none) Set.univ k Ψ)
          -∗ wp frame (wpE (defs₀ (F := F)) 𝒱 (c : Thread nD τ) none) Set.univ (.op w fun _ => k) Ψ) := by
  unfold owing
  iintro ⟨#Hsh, ⟨%W, HO⟩, Hc, Hat⟩ Hk
  iapply (Rounds.wp_wait_rest_token 𝒱 ER (sched m ρ) (c : Thread nD τ) none (κ := κ (c, x)) hw (Set.mem_univ _) i (O := owedAfter c n) (W := W)
      (R := r) (m := 0) (T := ∅) (by rw [expect_at m ρ c x r, hd, hu]; simp)) $$ [Hc HO Hat]
  · isplitr; · iapply (shared_cell m ρ κ ιs c x); iexact Hsh
    isplitl [Hc]; · iexact Hc
    isplitl [HO]; · iexact HO
    isplitr
    · iapply (mayWait_after c n (by omega) (csem x) i hi); iapply (shared_lev m ρ κ ιs); iexact Hsh
    iexact Hat
  iintro ⟨HO, Hat, Hr, Hpay⟩
  iapply Hk
  isplitl [HO]; · iexists (insert (csem x, i) W); iexact HO
  isplitl [Hat Hr]
  · isplitl [Hat] <;> iassumption
  iapply (show bigSep ((sched m ρ).duties (cell c x) r \ ∅) (fun i => (sched m ρ).payload (cell c x) r i) ⊢ carries m ρ c x r 0 from by
    rw [duties_at, hd, Finset.sdiff_empty, BI.bigSep_singleton, payload_at])
  iexact Hpay

theorem hop_next (x : Cid) (j : ℕ) : iprop(atPos ER (cell c x) (j / 4 + 1) ∅ 0 ∗ reached ER (cell c x) (j / 4 + 1)) ⊢ (hopPos c x (j + 4) : sProp 𝕄) := by
  unfold hopPos
  rw [show (j + 4) / 4 = j / 4 + 1 by omega]

theorem rule_waitS (d : Bool) (j : ℕ) (p : Fin 2) {n : ℕ} (hn : n ≤ 40) (h : (Op.waitS d j p).okAt n = true) : Rule m ρ κ ιs 𝒱 c (.waitS d j p) n := by
  intro k Ψ
  have hf : has d j p = true := okAt_fits h
  rw [after_waits (o := .waitS d j p) rfl]
  iintro ⟨#Hsh, HO, Hpre⟩ Hk
  ihave Hpre := (show held m ρ c (Op.waitS d j p).pre ⊢ iprop(cred (tallyAt (cell c (.snd d (slotOf j) p)) 0 N)
      ∗ (atPos ER (cell c (.snd d (slotOf j) p)) (j / 4) ∅ 0 ∗ reached ER (cell c (.snd d (slotOf j) p)) (j / 4)) ∗ emp) from .rfl) $$ Hpre
  icases Hpre with ⟨Hc, ⟨Hat, -⟩, -⟩
  iapply (wait_hop m ρ κ ιs 𝒱 c (.snd d (slotOf j) p) (sndSem d (slotOf j) p) rfl (j / 4) 0 n rfl (duty_snd hf) (Nat.zero_le _) hn
    (w := .waitDma2 (sndSem d (slotOf j) p) (dstM d j p) (srcM d j p) (slotM_wordExact d _ p) (srcM_wordExact d j p))
    (fun K => by rw [wpE_waitDma2_eq, credit_src]) k Ψ) $$ [HO Hc Hat]
  · isplitr; · iexact Hsh
    isplitl [HO]; · iexact HO
    isplitl [Hc] <;> iassumption
  iintro ⟨HO, Hpos, Hpay⟩
  iapply Hk
  isplitl [HO]; · iexact HO
  iapply (show iprop(hopPos c (.snd d (slotOf j) p) (j + 4) ∗ lentPts m ρ c d j p ∗ emp) ⊢ held m ρ c (Op.waitS d j p).post from by rw [← slotOf_add_four j]; exact .rfl)
  isplitl [Hpos]; · iapply (hop_next c (.snd d (slotOf j) p) j); iexact Hpos
  isplitl [Hpay]; · iapply (Entails.of_eq (carries_snd m ρ c d j p 0)); iexact Hpay
  iempintro

/-- What has landed, in its two shares. -/
theorem landed_split (d : Bool) (s : Fin 4) (p : Fin 2) (o : Dev nD) :
    slotPts m ρ c d s p fullShare o ⊢ iprop(slotPts m ρ c d s p fullShare.left o ∗ slotPts m ρ c d s p fullShare.right o) := by
  unfold slotPts
  exact (pointsTo_share (PosShare.mem_left_op_right fullShare)).1
theorem landed_join (d : Bool) (s : Fin 4) (p : Fin 2) (o : Dev nD) :
    iprop(slotPts m ρ c d s p fullShare.left o ∗ slotPts m ρ c d s p fullShare.right o) ⊢ slotPts m ρ c d s p fullShare o := by
  unfold slotPts
  exact (pointsTo_share (PosShare.mem_left_op_right fullShare)).2

theorem rule_waitR (d : Bool) (j : ℕ) (p : Fin 2) {n : ℕ} (hn : n ≤ 40) (h : (Op.waitR d j p).okAt n = true) : Rule m ρ κ ιs 𝒱 c (.waitR d j p) n := by
  intro k Ψ
  have hf : has d j p = true := okAt_fits h
  have hlev : time (.send d j p) ≤ n := okAt_level h rfl
  rw [after_waits (o := .waitR d j p) rfl]
  iintro ⟨#Hsh, HO, Hpre⟩ Hk
  ihave Hpre := (show held m ρ c (Op.waitR d j p).pre ⊢ iprop(cred (tallyAt (cell c (.rcv d (slotOf j) p)) (time (.send d j p)) N)
      ∗ (atPos ER (cell c (.rcv d (slotOf j) p)) (j / 4) ∅ 0 ∗ reached ER (cell c (.rcv d (slotOf j) p)) (j / 4)) ∗ emp) from .rfl) $$ Hpre
  icases Hpre with ⟨Hc, ⟨Hat, -⟩, -⟩
  iapply (wait_hop m ρ κ ιs 𝒱 c (.rcv d (slotOf j) p) (rcvSem d (slotOf j) p) rfl (j / 4) (time (.send d j p)) n rfl (duty_rcv hf) hlev hn
    (w := .waitDma2 (rcvSem d (slotOf j) p) (srcM d j p) (dstM d j p) (srcM_wordExact d j p) (slotM_wordExact d _ p))
    (fun K => by rw [wpE_waitDma2_eq, credit_slot]) k Ψ) $$ [HO Hc Hat]
  · isplitr; · iexact Hsh
    isplitl [HO]; · iexact HO
    isplitl [Hc] <;> iassumption
  iintro ⟨HO, Hpos, Hpay⟩
  iapply Hk
  isplitl [HO]; · iexact HO
  iapply (show iprop(hopPos c (.rcv d (slotOf j) p) (j + 4) ∗ slotPts m ρ c d (slotOf (j + 1)) p fullShare.left (origin d (j + 1) c)
    ∗ slotPts m ρ c d (slotOf (j + 1)) p fullShare.right (origin d (j + 1) c) ∗ emp) ⊢ held m ρ c (Op.waitR d j p).post from by rw [← slotOf_add_four j]; exact .rfl)
  isplitl [Hpos]; · iapply (hop_next c (.rcv d (slotOf j) p) j); iexact Hpos
  ihave Hpay := ((Entails.of_eq (carries_rcv m ρ c d j p 0)).trans (landed_split m ρ c d (slotOf (j + 1)) p (origin d (j + 1) c))) $$ Hpay
  icases Hpay with ⟨H1, H2⟩
  isplitl [H1]; · iexact H1
  isplitl [H2]; · iexact H2
  iempintro

end Cert.Gather
-- ==== Proof.Credits.lean ====
/-
The rules of the credits: handing a slot back, and taking a slot that has been handed back.
-/
module

public import proofs.«01_k».proof.Proof.Hops

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (𝒱 : Variants) (c : Dev nD)

/-! ## Slots -/

/-- The halves of a slot handed back with a credit are those the later hop fills. -/
theorem halves_slot : ∀ (d : Bool) (k : Fin 4), halves d (bif decide (slotOf (k.val + 1) = 0) then 7 else 4) = halves d (k.val + 4) := by decide
theorem halves_ne : ∀ (d : Bool) (k : Fin 4), ∃ p, p ∈ halves d (k.val + 4) := by decide

theorem keySlot_eq (e : Dev nD) (d : Bool) {k : ℕ} (hk : k < 4) :
    keySlot (F := F) (e, d, slotOf (k + 1)) = sepAll (halves d (k + 4)) fun p => slotAny e d (slotOf (k + 1)) p := by
  unfold keySlot
  rw [show halves d (bif decide (slotOf (k + 1) = 0) then 7 else 4) = halves d (k + 4) from halves_slot d ⟨k, hk⟩]

theorem slotAny_false (e : Dev nD) (d : Bool) (s : Fin 4) (p : Fin 2) : iprop(slotAny (F := F) e d s p ∗ slotAny e d s p) ⊢ (False : sProp 𝕄) :=
  slot_slot_false (slot_nonempty d s p)

/-- A slot handed back is exclusive. -/
theorem keySlot_false (e : Dev nD) (d : Bool) {k : ℕ} (hk : k < 4) :
    iprop(keySlot (F := F) (e, d, slotOf (k + 1)) ∗ keySlot (e, d, slotOf (k + 1))) ⊢ (False : sProp 𝕄) := by
  obtain ⟨p, hp⟩ := halves_ne d ⟨k, hk⟩
  rw [keySlot_eq e d hk]
  iintro ⟨H1, H2⟩
  ihave H1 := sepAll_erase hp (fun p => slotAny e d (slotOf (k + 1)) p) $$ H1
  ihave H2 := sepAll_erase hp (fun p => slotAny e d (slotOf (k + 1)) p) $$ H2
  icases H1 with ⟨H1, -⟩
  icases H2 with ⟨H2, -⟩
  iapply (slotAny_false e d (slotOf (k + 1)) p)
  isplitl [H1] <;> iassumption

/-! ## What has been heard -/

theorem heard_succ (e : Dev nD) (d : Bool) (k : ℕ) : heard (F := F) e d (k + 1) = iprop(heard e d k ∗ released ES (e, d, slotOf (k + 1)) 1
      ∗ sepAll (halves d (k + 4)) fun p => reached ER (cell e (.rcv d (slotOf (k + 4)) p)) 1) := rfl
theorem heard_mono (e : Dev nD) (d : Bool) {k n : ℕ} (h : k ≤ n) : heard (F := F) e d n ⊢ heard e d k := by
  induction h with
  | refl => exact .rfl
  | step h ih =>
    rw [heard_succ]
    iintro ⟨H, -⟩
    iapply ih; iexact H

/-- Among credits none of which is past `n`, as many as `k` reach `k`. -/
theorem card_le_last {S : Finset ℕ} {k n : ℕ} (hS : S ⊆ {1, 2, 3, 4}) (hk : k ≤ S.card) (hn : ∀ i ∈ S, i ≤ n) : k ≤ n := by
  have h : S ⊆ Finset.Icc 1 n := fun i hi => Finset.mem_Icc.mpr ⟨by
    have := hS hi; simp only [Finset.mem_insert, Finset.mem_singleton] at this; omega, hn i hi⟩
  have := Finset.card_le_card h
  rw [Nat.card_Icc] at this
  omega

/-- The furthest of some credits heard. -/
theorem heard_max (e : Dev nD) (d : Bool) (S : Finset ℕ) (n : ℕ) :
    iprop(heard (F := F) e d n ∗ bigSep S fun i => heard e d i) ⊢ iprop(∃ n', ⌜n ≤ n' ∧ ∀ i ∈ S, i ≤ n'⌝ ∗ heard e d n') := by
  induction S using Finset.induction_on with
  | empty =>
    iintro ⟨H, -⟩
    iexists n
    isplitr; · ipureintro; exact ⟨Nat.le_refl n, fun i hi => absurd hi (Finset.notMem_empty i)⟩
    iexact H
  | insert a S ha ih =>
    rw [BI.bigSep_insert ha]
    show iprop(heard e d n ∗ heard e d a ∗ bigSep S fun i => heard e d i) ⊢ _
    iintro ⟨H, Ha, HS⟩
    ihave H := ih $$ [H HS]
    · isplitl [H] <;> iassumption
    icases H with ⟨%n', %hn', H⟩
    rcases Nat.le_total a n' with h | h
    · iexists n'
      isplitr; · ipureintro; exact ⟨hn'.1, fun i hi => (Finset.mem_insert.mp hi).elim (fun e => e ▸ h) (hn'.2 i)⟩
      iexact H
    · iexists a
      isplitr; · ipureintro; exact ⟨Nat.le_trans hn'.1 h, fun i hi => (Finset.mem_insert.mp hi).elim (fun e => e ▸ Nat.le_refl _) (fun hi => Nat.le_trans (hn'.2 i hi) h)⟩
      iexact Ha

/-! ## Handing back -/

theorem den_sigCr (d : Bool) (j : ℕ) (k : Prog (TpuEff nD τ sig (Elt F) Λ₀ .tc) PUnit) :
    den c (.sigCr d j) k = .op (.semSignal (nbr (!d) c : Thread nD τ) (crSem d) 1) fun _ => k := by rw [← peerDev_eq]; rfl

/-- What a hand-back takes besides its tokens: the halves of the slot, with the semaphores of the hops to come at their second round. -/
theorem hand_slot (d : Bool) {k : ℕ} (hk : k < 4) :
    held m ρ c ((halves d (k + 4)).flatMap fun p => [.lent d (k + 1) p, .keep d (k + 1) p, .rpos d (k + 4) p])
      ⊢ iprop(keySlot (c, d, slotOf (k + 1)) ∗ (sepAll (halves d (k + 4)) fun p => reached ER (cell c (.rcv d (slotOf (k + 4)) p)) 1)
          ∗ held m ρ c ((halves d (k + 4)).map fun p => .rpos d (k + 4) p)) := by
  have e : (k + 4) / 4 = 1 := by omega
  rw [keySlot_eq c d hk]
  unfold held
  rw [sepAll_map]
  have one (p : Fin 2) : sepAll [.lent d (k + 1) p, .keep d (k + 1) p, .rpos d (k + 4) p] (res m ρ c)
      ⊢ iprop(slotAny c d (slotOf (k + 1)) p ∗ reached ER (cell c (.rcv d (slotOf (k + 4)) p)) 1 ∗ res m ρ c (.rpos d (k + 4) p)) := by
    show iprop(slotPts m ρ c d (slotOf (k + 1)) p fullShare.left (origin d (k + 1) c) ∗ slotPts m ρ c d (slotOf (k + 1)) p fullShare.right (origin d (k + 1) c)
      ∗ (atPos ER (cell c (.rcv d (slotOf (k + 4)) p)) ((k + 4) / 4) ∅ 0 ∗ reached ER (cell c (.rcv d (slotOf (k + 4)) p)) ((k + 4) / 4)) ∗ emp)
      ⊢ iprop(slotAny c d (slotOf (k + 1)) p ∗ reached ER (cell c (.rcv d (slotOf (k + 4)) p)) 1
        ∗ atPos ER (cell c (.rcv d (slotOf (k + 4)) p)) ((k + 4) / 4) ∅ 0 ∗ reached ER (cell c (.rcv d (slotOf (k + 4)) p)) ((k + 4) / 4))
    rw [e]
    iintro ⟨H1, H2, ⟨Hat, #Hr⟩, -⟩
    ihave H := landed_join m ρ c d (slotOf (k + 1)) p (origin d (k + 1) c) $$ [H1 H2]
    · isplitl [H1] <;> iassumption
    isplitl [H]
    · iapply (show slotPts m ρ c d (slotOf (k + 1)) p fullShare (origin d (k + 1) c) ⊢ slotAny c d (slotOf (k + 1)) p from by
        unfold slotPts slotAny slot
        iintro H
        iexists slotBuf m ρ d c (origin d (k + 1) c)
        iexact H)
      iexact H
    isplitr; · iexact Hr
    isplitl [Hat]; · iexact Hat
    iexact Hr
  refine (sepAll_flatMap _ _ _).1.trans ((sepAll_mono fun p _ => one p).trans ((sepAll_sep _ _ _).trans (BIClass.sep_mono .rfl (sepAll_sep _ _ _))))

theorem rule_sigCr (d : Bool) (j : ℕ) {n : ℕ} (h : (Op.sigCr d j).okAt n = true) : Rule m ρ κ ιs 𝒱 c (.sigCr d j) n := by
  intro K Ψ
  have hf : 1 ≤ j ∧ j ≤ 4 := of_decide_eq_true (okAt_fits h)
  obtain ⟨k, rfl⟩ : ∃ k, j = k + 1 := ⟨j - 1, by omega⟩
  have hk : k < 4 := by omega
  have hd : k + 1 ∈ (sched m ρ).duties (cell (nbr (!d) c) (.cr d)) 0 := by
    rw [duties_at]
    show k + 1 ∈ ({1, 2, 3, 4} : Finset ℕ)
    interval_cases k <;> decide
  rw [after_pays (o := .sigCr d (k + 1)) rfl, den_sigCr]
  unfold owing
  iintro ⟨#Hsh, ⟨%W, HO⟩, Hpre⟩ Hk
  ihave Hpre := (show held m ρ c (Op.sigCr d (k + 1)).pre ⊢ iprop(dutyTok ER (cell (nbr (!d) c) (.cr d)) 0 (k + 1) ∗ readerAt ES (c, d, slotOf (k + 1)) 0 ∗ heard c d k
    ∗ held m ρ c ((halves d (k + 4)).flatMap fun p => [.lent d (k + 1) p, .keep d (k + 1) p, .rpos d (k + 4) p])) from .rfl) $$ Hpre
  icases Hpre with ⟨Htok, Hrd, #Hh, Hq⟩
  ihave Hq := hand_slot m ρ c d hk $$ Hq
  icases Hq with ⟨Hslot, #Hr, Hpos⟩
  imod (slot_release ES (ι := ιs (c, d, slotOf (k + 1))) (Es := Set.univ) (Set.mem_univ _) (keySlot_false c d hk) 0) $$ [Hrd Hslot] with ⟨-, #Hrel⟩
  · isplitr; · iapply (shared_slot m ρ κ ιs (c, d, slotOf (k + 1))); iexact Hsh
    isplitl [Hrd] <;> iassumption
  iapply (Rounds.wp_signal 𝒱 ER (sched m ρ) (c : Thread nD τ) none (dst := (nbr (!d) c : Thread nD τ)) (κ := κ (nbr (!d) c, .cr d))
      (d := k + 1) hd ((amount_at m ρ (nbr (!d) c) (.cr d) 0 _).trans rfl) (time (.sigCr d (k + 1))) (owedAfter c (n + 1)) (owedAfter_step (okAt_pays h rfl)))
    $$ [HO Htok]
  · isplitr; · iapply (shared_cell m ρ κ ιs (nbr (!d) c) (.cr d)); iexact Hsh
    isplitl [HO]; · iexact HO
    isplitl [Htok]; · iexact Htok
    isplitr
    · iapply (show heard c d (k + 1) ⊢ (sched m ρ).payload (cell (nbr (!d) c) (.cr d)) 0 (k + 1) from by
        rw [payload_at]; show _ ⊢ heard (nbr d (nbr (!d) c)) d (k + 1); rw [nbr_nbr])
      iapply (show iprop(heard c d k ∗ released ES (c, d, slotOf (k + 1)) 1
        ∗ sepAll (halves d (k + 4)) fun p => reached ER (cell c (.rcv d (slotOf (k + 4)) p)) 1) ⊢ heard c d (k + 1) from .rfl)
      isplitr; · iexact Hh
      isplitr; · iexact Hrel
      iexact Hr
    · iapply (shared_reached m ρ κ ιs (nbr (!d) c) (.cr d)); iexact Hsh
  iintro HO
  iapply Hk
  isplitl [HO]; · iexists W; iexact HO
  iapply (show iprop((heard c d k ∗ released ES (c, d, slotOf (k + 1)) 1
        ∗ sepAll (halves d (k + 4)) fun p => reached ER (cell c (.rcv d (slotOf (k + 4)) p)) 1) ∗ held m ρ c ((halves d (k + 4)).map fun p => .rpos d (k + 4) p))
      ⊢ held m ρ c (Op.sigCr d (k + 1)).post from .rfl)
  isplitr [Hpos]
  · isplitr; · iexact Hh
    isplitr; · iexact Hrel
    iexact Hr
  iexact Hpos

/-! ## Taking -/

/-- The slot handed back, with what the hop to come needs of its semaphore. -/
theorem take_slot (d : Bool) {k n : ℕ} (hk : k < 4) (hn : k + 1 ≤ n) :
    iprop(shared m ρ κ ιs ∗ heard (nbr d c) d n ∗ writeTok ES (nbr d c, d, slotOf (k + 1)) 1)
      ⊢ (|={Set.univ}=> held m ρ c ((halves d (k + 4)).map fun p => .peer d (k + 4) p) : sProp 𝕄) := by
  have e : (k + 4) / 4 = 1 := by omega
  iintro ⟨#Hsh, Hh, Hw⟩
  ihave Hh := heard_mono (nbr d c) d hn $$ Hh
  ihave Hh := (Entails.of_eq (heard_succ (nbr d c) d k)) $$ Hh
  icases Hh with ⟨-, #Hrel, #Hr⟩
  imod (slot_take ES (ι := ιs (nbr d c, d, slotOf (k + 1))) (Es := Set.univ) (S := keySlot (nbr d c, d, slotOf (k + 1))) (Set.mem_univ _) 1) $$ [Hw] with Hs
  · isplitr; · iapply (shared_slot m ρ κ ιs (nbr d c, d, slotOf (k + 1))); iexact Hsh
    isplitr; · iexact Hrel
    iexact Hw
  imodintro
  iapply (show iprop(keySlot (nbr d c, d, slotOf (k + 1)) ∗ sepAll (halves d (k + 4)) fun p => reached ER (cell (nbr d c) (.rcv d (slotOf (k + 4)) p)) 1)
      ⊢ held m ρ c ((halves d (k + 4)).map fun p => .peer d (k + 4) p) from by
    rw [keySlot_eq (nbr d c) d hk]
    unfold held
    rw [sepAll_map]
    refine (sepAll_sep_intro _ _ _).trans (sepAll_mono fun p _ => ?_)
    show _ ⊢ iprop(slotAny (nbr d c) d (slotOf (k + 1 + 4)) p ∗ reached ER (cell (nbr d c) (.rcv d (slotOf (k + 4)) p)) ((k + 4) / 4))
    rw [e, slotOf_add_four (k + 1)])
  isplitl [Hs]; · iexact Hs
  iexact Hr

theorem cr_duties (d : Bool) : (sched m ρ).duties (cell c (.cr d)) 0 = {1, 2, 3, 4} := duties_at m ρ c (.cr d) 0
theorem cr_payload (d : Bool) (i : ℕ) : (sched m ρ).payload (cell c (.cr d)) 0 i = heard (nbr d c) d i := payload_at m ρ c (.cr d) 0 i

/-- The credits of a direction. -/
abbrev credits : Finset ℕ := {1, 2, 3, 4}

theorem res_cpos (d : Bool) {k : ℕ} (h : k ≠ 4) : res m ρ c (.cpos d k) = creditPos c d k := by
  show (bif decide (k = 4) then atPos ER (cell c (.cr d)) 1 ∅ 0 else creditPos c d k) = _
  rw [decide_eq_false h]
  rfl

/-- The first three waits leave the cell in its round. -/
theorem rule_waitCr_some (d : Bool) (k : ℕ) (hk : k < 3) {n : ℕ} (hn : n ≤ 40) (h : (Op.waitCr d (k + 1)).okAt n = true) : Rule m ρ κ ιs 𝒱 c (.waitCr d (k + 1)) n := by
  intro K Ψ
  have hlev : time (.sigCr d (k + 1)) ≤ n := okAt_level h rfl
  rw [after_waits (o := .waitCr d (k + 1)) rfl]
  show _ ⊢ iprop(_ -∗ wp frame (wpE (defs₀ (F := F)) 𝒱 (c : Thread nD τ) none) Set.univ (.op (.semWait (crSem d) 1) fun _ => K) Ψ)
  unfold owing
  iintro ⟨#Hsh, ⟨%W, HO⟩, Hpre⟩ Hk
  ihave Hpre := (show held m ρ c (Op.waitCr d (k + 1)).pre ⊢ iprop((∃ (S : Finset ℕ) (i : ℕ), ⌜S ⊆ credits ∧ k ≤ S.card ∧ ∀ j ∈ S, j ≤ i⌝ ∗ atPos ER (cell c (.cr d)) 0 S k ∗ heard (nbr d c) d i)
      ∗ cred (tallyOn (cell c (.cr d)) (Finsupp.single (time (.sigCr d (k + 1))) 1)) ∗ writeTok ES (nbr d c, d, slotOf (k + 1)) 1 ∗ emp) from by
    have e : res m ρ c (.cpos d k) = creditPos c d k := res_cpos m ρ c d (by omega)
    show iprop(res m ρ c (.cpos d k) ∗ _) ⊢ _
    rw [e]
    exact .rfl) $$ Hpre
  icases Hpre with ⟨⟨%S, %i, %hS, Hat, #Hh⟩, Hc, Hw, -⟩
  iapply (Rounds.wp_wait 𝒱 ER (sched m ρ) (c : Thread nD τ) none (κ := κ (c, .cr d))
      (wpE_semWait_eq 𝒱 (c : Thread nD τ) none Set.univ) (Set.mem_univ _) {(.reg (crSem d), time (.sigCr d (k + 1)))}
      (cr := Finsupp.single (time (.sigCr d (k + 1))) 1) (O := owedAfter c n) (W := W) (R := 0) (m := k) (T := S)
      (Util.total_single _ _)
      (by
        intro p hp
        obtain ⟨i, hi, rfl⟩ := Finset.mem_image.mp hp
        rw [Finset.mem_singleton.mp (Finsupp.support_single_subset hi)]; exact Finset.mem_singleton_self _)) $$ [Hc HO Hat]
  · isplitr; · iapply (shared_cell m ρ κ ιs c (.cr d)); iexact Hsh
    isplitl [Hc]; · iexact Hc
    isplitl [HO]; · iexact HO
    isplitr
    · iapply (mayWait_after c n (by omega) (.reg (crSem d)) (time (.sigCr d (k + 1))) hlev)
      iapply (shared_lev m ρ κ ιs); iexact Hsh
    iexact Hat
  iintro %S' ⟨%hS', HO, Hat, Hpay⟩
  have hS'' : S ⊆ S' ∧ S' ⊆ {1, 2, 3, 4} ∧ k + 1 ≤ S'.card := by
    obtain ⟨h1, h2, h3⟩ := hS'
    rw [cr_duties] at h2 h3
    refine ⟨h1, h2, ?_⟩
    rw [expect_at m ρ c (.cr d) 0, Finset.card_sdiff_of_subset h2] at h3
    have e : (duty (.cr d) 0).card * units (.cr d) = 4 := rfl
    rw [e] at h3
    have e' : ({1, 2, 3, 4} : Finset ℕ).card = 4 := rfl
    have := Finset.card_le_card h2
    omega
  ihave Hm := (show iprop(heard (nbr d c) d i ∗ bigSep (S' \ S) fun j => (sched m ρ).payload (cell c (.cr d)) 0 j)
      ⊢ iprop(∃ i', ⌜i ≤ i' ∧ ∀ j ∈ S' \ S, j ≤ i'⌝ ∗ heard (nbr d c) d i') from by
    rw [bigSep_congr fun j _ => cr_payload m ρ c d j]; exact heard_max (nbr d c) d (S' \ S) i) $$ [Hpay]
  · isplitr; · iexact Hh
    iexact Hpay
  icases Hm with ⟨%i', %hi', #Hh'⟩
  have hlast : ∀ j ∈ S', j ≤ i' := fun j hj => by
    by_cases hjS : j ∈ S
    · exact Nat.le_trans (hS.2.2 j hjS) hi'.1
    · exact hi'.2 j (Finset.mem_sdiff.mpr ⟨hj, hjS⟩)
  imod (take_slot m ρ κ ιs c d (k := k) (n := i') (by omega) (card_le_last hS''.2.1 hS''.2.2 hlast)) $$ [Hw] with Hp
  · isplitr; · iexact Hsh
    isplitr; · iexact Hh'
    iexact Hw
  iapply Hk
  isplitl [HO]; · iexists (W ∪ {(.reg (crSem d), time (.sigCr d (k + 1)))}); iexact HO
  iapply (show iprop((∃ (S : Finset ℕ) (i : ℕ), ⌜S ⊆ credits ∧ k + 1 ≤ S.card ∧ ∀ j ∈ S, j ≤ i⌝ ∗ atPos ER (cell c (.cr d)) 0 S (k + 1) ∗ heard (nbr d c) d i)
      ∗ held m ρ c ((halves d (k + 4)).map fun p => .peer d (k + 4) p)) ⊢ held m ρ c (Op.waitCr d (k + 1)).post from by
    have e : res m ρ c (.cpos d (k + 1)) = creditPos c d (k + 1) := res_cpos m ρ c d (by omega)
    show _ ⊢ iprop(res m ρ c (.cpos d (k + 1)) ∗ _)
    rw [e]
    exact .rfl)
  isplitl [Hat]
  · iexists S'; iexists i'
    isplitr; · ipureintro; exact ⟨hS''.2.1, hS''.2.2, hlast⟩
    isplitl [Hat]; · iexact Hat
    iexact Hh'
  iexact Hp

/-- The last wait takes all that is left of the round. -/
theorem rule_waitCr_last (d : Bool) {n : ℕ} (hn : n ≤ 40) (h : (Op.waitCr d 4).okAt n = true) : Rule m ρ κ ιs 𝒱 c (.waitCr d 4) n := by
  intro K Ψ
  have hlev : time (.sigCr d 4) ≤ n := okAt_level h rfl
  rw [after_waits (o := .waitCr d 4) rfl]
  show _ ⊢ iprop(_ -∗ wp frame (wpE (defs₀ (F := F)) 𝒱 (c : Thread nD τ) none) Set.univ (.op (.semWait (crSem d) 1) fun _ => K) Ψ)
  unfold owing
  iintro ⟨#Hsh, ⟨%W, HO⟩, Hpre⟩ Hk
  ihave Hpre := (show held m ρ c (Op.waitCr d 4).pre ⊢ iprop((∃ (S : Finset ℕ) (i : ℕ), ⌜S ⊆ credits ∧ 3 ≤ S.card ∧ ∀ j ∈ S, j ≤ i⌝ ∗ atPos ER (cell c (.cr d)) 0 S 3 ∗ heard (nbr d c) d i)
      ∗ cred (tallyAt (cell c (.cr d)) (time (.sigCr d 4)) 1) ∗ writeTok ES (nbr d c, d, slotOf 4) 1 ∗ emp) from .rfl) $$ Hpre
  icases Hpre with ⟨⟨%S, %i, %hS, Hat, #Hh⟩, Hc, Hw, -⟩
  iapply (Rounds.wp_wait_rest_token 𝒱 ER (sched m ρ) (c : Thread nD τ) none (κ := κ (c, .cr d))
      (wpE_semWait_eq 𝒱 (c : Thread nD τ) none Set.univ) (Set.mem_univ _) (time (.sigCr d 4)) (O := owedAfter c n) (W := W)
      (R := 0) (m := 3) (T := S) (by rw [expect_at m ρ c (.cr d) 0]; rfl)) $$ [Hc HO Hat]
  · isplitr; · iapply (shared_cell m ρ κ ιs c (.cr d)); iexact Hsh
    isplitl [Hc]; · iexact Hc
    isplitl [HO]; · iexact HO
    isplitr
    · iapply (mayWait_after c n (by omega) (.reg (crSem d)) (time (.sigCr d 4)) hlev)
      iapply (shared_lev m ρ κ ιs); iexact Hsh
    iexact Hat
  iintro ⟨HO, Hat, -, Hpay⟩
  ihave Hm := (show iprop(heard (nbr d c) d i ∗ bigSep ((sched m ρ).duties (cell c (.cr d)) 0 \ S) fun j => (sched m ρ).payload (cell c (.cr d)) 0 j)
      ⊢ iprop(∃ i', ⌜i ≤ i' ∧ ∀ j ∈ credits \ S, j ≤ i'⌝ ∗ heard (nbr d c) d i') from by
    rw [bigSep_congr fun j _ => cr_payload m ρ c d j, cr_duties]; exact heard_max (nbr d c) d ({1, 2, 3, 4} \ S) i) $$ [Hpay]
  · isplitr; · iexact Hh
    iexact Hpay
  icases Hm with ⟨%i', %hi', #Hh'⟩
  have hlast : 4 ≤ i' := by
    by_cases hjS : 4 ∈ S
    · exact Nat.le_trans (hS.2.2 4 hjS) hi'.1
    · exact hi'.2 4 (Finset.mem_sdiff.mpr ⟨by decide, hjS⟩)
  imod (take_slot m ρ κ ιs c d (k := 3) (n := i') (by omega) hlast) $$ [Hw] with Hp
  · isplitr; · iexact Hsh
    isplitr; · iexact Hh'
    iexact Hw
  iapply Hk
  isplitl [HO]; · iexists (insert (.reg (crSem d), time (.sigCr d 4)) W); iexact HO
  iapply (show iprop(atPos ER (cell c (.cr d)) 1 ∅ 0 ∗ held m ρ c ((halves d 7).map fun p => .peer d 7 p)) ⊢ held m ρ c (Op.waitCr d 4).post from .rfl)
  isplitl [Hat]; · iexact Hat
  iexact Hp

theorem rule_waitCr (d : Bool) (j : ℕ) {n : ℕ} (hn : n ≤ 40) (h : (Op.waitCr d j).okAt n = true) : Rule m ρ κ ιs 𝒱 c (.waitCr d j) n := by
  have hf : 1 ≤ j ∧ j ≤ 4 := of_decide_eq_true (okAt_fits h)
  obtain ⟨k, rfl⟩ : ∃ k, j = k + 1 := ⟨j - 1, by omega⟩
  by_cases hk : k < 3
  · exact rule_waitCr_some m ρ κ ιs 𝒱 c d k hk hn h
  · obtain rfl : k = 3 := by omega
    exact rule_waitCr_last m ρ κ ιs 𝒱 c d hn h

end Cert.Gather
-- ==== Proof.Plays.lean ====
/-
The protocol's finite facts: the list of operations runs from the starting tokens to the final ones, and the printed
body is the list.
-/
module

public import proofs.«01_k».proof.Proof.Code

@[expose] public section

set_option maxRecDepth 65536

namespace Cert.Gather

open Idealize.ShloMosaic Idealize.ShloMosaic.TcCoe Cert.KernelIdeal Cert.KernelIdeal.Gen
open Idealize.SL.Sem

variable {F : FTy → Type} [FloatOps F]

theorem plays_true : plays = true := by decide +kernel

/-- What the check says, as an equation of the run. -/
theorem run_body : ∃ l, run body 0 start = some (40, l) ∧ takeAll finish l = some [] := by
  have h := plays_true
  have hl : payOps.length = 40 := by decide +kernel
  unfold plays at h
  rcases hr : run body 0 start with _ | ⟨n, l⟩
  · rw [hr] at h; exact absurd h (by decide)
  · rw [hr] at h
    have h := Bool.and_eq_true_iff.mp h
    refine ⟨l, ?_, of_decide_eq_true h.2⟩
    rw [of_decide_eq_true h.1, hl]

set_option maxHeartbeats 4000000 in
/-- The printed body reads the device's number and then is the list. -/
theorem body_eq : cc0_body (F := F) (win0_0.stage 0) (hstage0_0 0) (win0_1.stage 0) (hstage0_1 0) (win0_2.stage 0) (hstage0_2 0)
      (Memref.whole cc0_scratch0) (Memref.isWhole_whole _) (Memref.whole cc0_scratch1) (Memref.isWhole_whole _)
      cc0_scratch2 cc0_scratch3 cc0_scratch4 cc0_scratch5 cc0_scratch6 cc0_scratch7
    = .op .deviceId fun c => code c body := by
  rw [cc0_body_eq_skeleton]
  rfl

end Cert.Gather
-- ==== Proof.Run.lean ====
/-
The body run as a list: every operation's rule in turn, from the tokens at the start to those at the end.
-/
module

public import proofs.«01_k».proof.Proof.Products
public import proofs.«01_k».proof.Proof.Credits
public import proofs.«01_k».proof.Proof.Plays

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (𝒱 : Variants) (c : Dev nD)

/-- Every operation made where it may be made has its rule. -/
theorem rule_any (o : Op) {n : ℕ} (hn : n ≤ 40) (h : o.okAt n = true) : Rule m ρ κ ιs 𝒱 c o n := by
  cases o with
  | sigBar d => exact rule_sigBar m ρ κ ιs 𝒱 c d h
  | waitBar => exact rule_waitBar m ρ κ ιs 𝒱 c hn h
  | send d j p => exact rule_send m ρ κ ιs 𝒱 c d j p h
  | waitS d j p => exact rule_waitS m ρ κ ιs 𝒱 c d j p hn h
  | waitR d j p => exact rule_waitR m ρ κ ιs 𝒱 c d j p hn h
  | sigCr d k => exact rule_sigCr m ρ κ ιs 𝒱 c d k h
  | waitCr d k => exact rule_waitCr m ρ κ ιs 𝒱 c d k hn h
  | compX => exact rule_compX m ρ κ ιs 𝒱 c h
  | compS d j => exact rule_compS m ρ κ ιs 𝒱 c d j h
  | compH d => exact rule_compH m ρ κ ιs 𝒱 c d h

/-- No more than the forty payments are made. -/
theorem after_le {o : Op} {n : ℕ} (hn : n ≤ 40) (h : o.okAt n = true) : o.after n ≤ 40 := by
  cases hp : o.pays with
  | false => rw [after_waits hp]; exact hn
  | true =>
    rw [after_pays hp]
    have hd := congrArg List.length (okAt_pays h hp)
    rw [List.length_drop, List.length_cons, payOps_length] at hd
    omega

/-- A list of operations that runs, run. -/
theorem run_code : ∀ (l : List Op) (n : ℕ) (T : List Res) (n' : ℕ) (T' : List Res), n ≤ 40 → run l n T = some (n', T') →
    ∀ Ψ : PUnit → sProp 𝕄, iprop(shared m ρ κ ιs ∗ owing c n ∗ held m ρ c T)
      ⊢ iprop(((owing c n' ∗ held m ρ c T') -∗ wp frame (wpE (defs₀ (F := F)) 𝒱 (c : Thread nD τ) none) Set.univ (.ret ⟨⟩) Ψ)
          -∗ wp frame (wpE (defs₀ (F := F)) 𝒱 (c : Thread nD τ) none) Set.univ (code c l) Ψ)
  | [], n, T, n', T', hn, h, Ψ => by
    obtain ⟨rfl, rfl⟩ : n = n' ∧ T = T' := by simpa [run] using h
    iintro ⟨-, HO, HT⟩ Hk
    iapply Hk
    isplitl [HO] <;> iassumption
  | o :: l, n, T, n', T', hn, h, Ψ => by
    unfold run at h
    by_cases hok : o.okAt n = true
    · rw [if_pos hok] at h
      cases ht : takeAll o.pre T with
      | none => rw [ht] at h; exact absurd h (by simp)
      | some U =>
        rw [ht] at h
        have ih := run_code l (o.after n) (o.post ++ U) n' T' (after_le hn hok) h Ψ
        have hr := rule_any m ρ κ ιs 𝒱 c o hn hok (code c l) Ψ
        have hj : iprop(held m ρ c o.post ∗ held m ρ c U) ⊢ held m ρ c (o.post ++ U) := (sepAll_append _ _ (res m ρ c)).2
        show _ ⊢ iprop(_ -∗ wp frame (wpE (defs₀ (F := F)) 𝒱 (c : Thread nD τ) none) Set.univ (den c o (code c l)) Ψ)
        iintro ⟨#Hsh, HO, HT⟩ Hk
        ihave HT := held_takeAll m ρ c o.pre T U ht $$ HT
        icases HT with ⟨Hp, HU⟩
        iapply hr $$ [HO Hp]
        · isplitr; · iexact Hsh
          isplitl [HO] <;> iassumption
        iintro ⟨HO, Hq⟩
        iapply ih $$ [HO Hq HU]
        · isplitr; · iexact Hsh
          isplitl [HO]; · iexact HO
          iapply hj
          isplitl [Hq] <;> iassumption
        iexact Hk
    · rw [if_neg hok] at h; exact absurd h (by simp)

/-- The whole body after it has read the device's number. -/
theorem run_all (Ψ : PUnit → sProp 𝕄) : iprop(shared m ρ κ ιs ∗ owing c 0 ∗ held m ρ c start)
      ⊢ iprop(((owing c 40 ∗ held m ρ c finish) -∗ wp frame (wpE (defs₀ (F := F)) 𝒱 (c : Thread nD τ) none) Set.univ (.ret ⟨⟩) Ψ)
          -∗ wp frame (wpE (defs₀ (F := F)) 𝒱 (c : Thread nD τ) none) Set.univ (code c body) Ψ) := by
  obtain ⟨l, hl, hf⟩ := run_body
  have hr := run_code m ρ κ ιs 𝒱 c body 0 start 40 l (by decide) hl Ψ
  have ht := held_takeAll m ρ c finish l [] hf
  iintro ⟨#Hsh, HO, HT⟩ Hk
  iapply hr $$ [HO HT]
  · isplitr; · iexact Hsh
    isplitl [HO] <;> iassumption
  iintro ⟨HO, HT⟩
  iapply Hk
  isplitl [HO]; · iexact HO
  ihave HT := ht $$ HT
  icases HT with ⟨HT, -⟩
  iexact HT

theorem owedAfter_end : owedAfter c 40 = 0 := by
  unfold owedAfter; rw [List.drop_eq_nil_of_le (by rw [payOps_length])]; rfl

end Cert.Gather
-- ==== Proof.Buffers.lean ====
/-
The buffers at the two ends of the body: a landing buffer cut into half slots and put together again, and the shares of
the own block.
-/
module

public import proofs.«01_k».proof.Proof.Hops

@[expose] public section

set_option maxRecDepth 65536

noncomputable section

namespace Cert.Gather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-! ## Lists and sets -/

section Lists
variable {I : Type} [DecidableEq I]

theorem set_list (Φ : I → sProp 𝕄) : ∀ l : List I, l.Nodup → (bigSep l.toFinset Φ ⊣⊢ sepAll l Φ)
  | [], _ => by rw [List.toFinset_nil, bigSep_empty]; exact .rfl
  | a :: l, h => by
    have ha : a ∉ l.toFinset := fun hm => (List.nodup_cons.mp h).1 (List.mem_toFinset.mp hm)
    rw [List.toFinset_cons, bigSep_insert ha, sepAll_cons]
    exact sep_congr_right (set_list Φ l (List.nodup_cons.mp h).2)
/-- Everything, along a list of it. -/
theorem all_list [Fintype I] (Φ : I → sProp 𝕄) (l : List I) (h : l.Nodup) : bigSep Finset.univ Φ ⊢ sepAll l Φ := by
  have h1 : bigSep Finset.univ Φ ⊢ bigSep l.toFinset Φ := bigSep_subset (Finset.subset_univ _)
  exact h1.trans (set_list Φ l h).1
theorem list_all [Fintype I] (Φ : I → sProp 𝕄) (l : List I) (h : l.Nodup) (hl : l.toFinset = Finset.univ) : sepAll l Φ ⊢ bigSep Finset.univ Φ := by
  rw [← hl]; exact (set_list Φ l h).2

end Lists

theorem quads_nodup : quads.Nodup := by decide
theorem quads_all : quads.toFinset = Finset.univ := by decide

/-! ## A landing buffer -/

/-- The set of a half slot among the indices of the device's landing buffer. -/
abbrev slotSet (d : Bool) (x : Fin 4 × Fin 2) : Finset (Idx ((commM d).view.loc (c : Thread nD τ))) := (slotM d x.1 x.2).view.set

theorem slots_all (d : Bool) : (Finset.univ : Finset (Idx ((commM d).view.loc (c : Thread nD τ)))) = Finset.univ.biUnion (slotSet c d) := by
  ext i
  refine ⟨fun _ => Finset.mem_biUnion.mpr ⟨placeOf d i, Finset.mem_univ _, ?_⟩, fun _ => Finset.mem_univ _⟩
  exact (mem_slot d _ _ i).mpr rfl
theorem slots_apart (d : Bool) (x y : Fin 4 × Fin 2) (h : x ≠ y) : Disjoint (slotSet c d x) (slotSet c d y) := slot_disjoint d h

/-- The whole buffer with any contents. -/
def commAny (d : Bool) : sProp 𝕄 := iprop(∃ f : Buf (Elt F) ((commM d).view.loc (c : Thread nD τ)), ((commM d).view.loc (c : Thread nD τ)) ↦{fullShare} f)

theorem comm_cut (d : Bool) : commAny (F := F) c d ⊢ sepAll quads fun x => slotAny c d x.1 x.2 := by
  have h (f : Buf (Elt F) ((commM d).view.loc (c : Thread nD τ))) :
      (((commM d).view.loc (c : Thread nD τ)) ↦{fullShare} f : sProp 𝕄) ⊢ sepAll quads fun x => slotAny c d x.1 x.2 := by
    show (((commM d).view.loc (c : Thread nD τ)) ↦[Finset.univ]{fullShare} f : sProp 𝕄) ⊢ _
    rw [slots_all, pointsTo_biUnion _ _ fun x _ y _ h => slots_apart c d x y h]
    have h2 : (bigSep Finset.univ fun x : Fin 4 × Fin 2 => ((commM d).view.loc (c : Thread nD τ) ↦[slotSet c d x]{fullShare} f : sProp 𝕄))
        ⊢ bigSep Finset.univ fun x : Fin 4 × Fin 2 => slotAny c d x.1 x.2 := bigSep_mono fun x _ => by
      show _ ⊢ iprop(∃ g, (commM d).view.loc (c : Thread nD τ) ↦[slotSet c d x]{fullShare} g)
      iintro H; iexists f; iexact H
    exact h2.trans (all_list _ quads quads_nodup)
  unfold commAny
  iintro ⟨%f, H⟩
  iapply (h f)
  iexact H

theorem comm_join (d : Bool) : (sepAll quads fun x => slotAny (F := F) c d x.1 x.2) ⊢ commAny c d := by
  refine (list_all _ quads quads_nodup quads_all).trans ?_
  have h1 : (bigSep Finset.univ fun x : Fin 4 × Fin 2 => slotAny (F := F) c d x.1 x.2)
      ⊢ iprop(∃ fs : (x : Fin 4 × Fin 2) → Buf (Elt F) ((commM d).view.loc (c : Thread nD τ)),
          bigSep Finset.univ fun x : Fin 4 × Fin 2 => ((commM d).view.loc (c : Thread nD τ) ↦[slotSet c d x]{fullShare} fs x : sProp 𝕄)) :=
    BI.bigSep_exists_pi Finset.univ fun (x : Fin 4 × Fin 2) f => ((commM d).view.loc (c : Thread nD τ) ↦[slotSet c d x]{fullShare} f : sProp 𝕄)
  have h2 (fs : (x : Fin 4 × Fin 2) → Buf (Elt F) ((commM d).view.loc (c : Thread nD τ))) :
      (bigSep Finset.univ fun x : Fin 4 × Fin 2 => ((commM d).view.loc (c : Thread nD τ) ↦[slotSet c d x]{fullShare} fs x : sProp 𝕄)) ⊢ commAny c d := by
    have h3 : (bigSep Finset.univ fun x : Fin 4 × Fin 2 => ((commM d).view.loc (c : Thread nD τ) ↦[slotSet c d x]{fullShare} fs x : sProp 𝕄))
        ⊢ iprop(∃ g, ⌜∀ x ∈ Finset.univ, ∀ i ∈ slotSet c d x, g i = fs x i⌝ ∗ ((commM d).view.loc (c : Thread nD τ) ↦[Finset.univ.biUnion (slotSet c d)]{fullShare} g)) :=
      pointsTo_biUnion_join Finset.univ (slotSet c d) fs (fs (0, 0)) fun x _ y _ h => slots_apart c d x y h
    rw [← slots_all c d] at h3
    unfold commAny
    iintro H
    ihave H := h3 $$ H
    icases H with ⟨%g, -, H⟩
    iexists g
    iexact H
  iintro H
  ihave H := h1 $$ H
  icases H with ⟨%fs, H⟩
  iapply (h2 fs)
  iexact H

/-! ## The own block -/

theorem mem_half (p : Fin 2) (i : S256x4096.Idx) : i ∈ ((halfM p).view.set : Finset S256x4096.Idx) ↔ (i 0).val / 128 = p.val := by
  have e : (∃ x : S128x4096.Idx, (Rect.unit (s := S256x4096) ![128 * p.val, 0] S128x4096.size (half_inb p)).emb x = i) ↔ (i 0).val / 128 = p.val := by
    constructor
    · rintro ⟨x, rfl⟩
      obtain ⟨u, v, rfl⟩ : ∃ (u : Fin 128) (v : Fin 4096), x = ix2 u v := ⟨x 0, x 1, eq_ix2 x⟩
      rw [half_index]
      show (128 * p.val + u.val) / 128 = p.val
      omega
    · intro e0
      have hv : (i 1).val < 4096 := (i 1).isLt
      refine ⟨ix2 (⟨(i 0).val % 128, Nat.mod_lt _ (by decide)⟩ : Fin 128) (⟨(i 1).val, hv⟩ : Fin 4096), ?_⟩
      rw [half_index]
      funext a
      apply Fin.ext
      fin_cases a
      · show 128 * p.val + (i 0).val % 128 = (i 0).val
        omega
      · rfl
  refine Iff.trans ?_ e
  show i ∈ Finset.univ.map (halfM p).view.emb ↔ _
  refine Finset.mem_map.trans ?_
  exact ⟨fun ⟨x, _, hx⟩ => ⟨x, hx⟩, fun ⟨x, hx⟩ => ⟨x, Finset.mem_univ _, hx⟩⟩

theorem halves_all : (Finset.univ : Finset (Idx (xM.view.loc (c : Thread nD τ))))
    = (show Finset (Idx (xM.view.loc (c : Thread nD τ))) from (halfM 0).view.set) ∪ (halfM 1).view.set := by
  ext i
  refine ⟨fun _ => ?_, fun _ => Finset.mem_univ _⟩
  have h : (i 0).val < 256 := (i 0).isLt
  by_cases hi : (i 0).val / 128 = 0
  · exact Finset.mem_union_left _ ((mem_half 0 i).mpr hi)
  · exact Finset.mem_union_right _ ((mem_half 1 i).mpr (by show _ = 1; omega))
theorem halves_apart : Disjoint (show Finset (Idx (xM.view.loc (c : Thread nD τ))) from (halfM 0).view.set) (halfM 1).view.set :=
  Finset.disjoint_left.mpr fun i h1 h2 => by
    have a : (i 0).val / 128 = 0 := (mem_half 0 i).mp h1
    have b : (i 0).val / 128 = 1 := (mem_half 1 i).mp h2
    omega

/-- The own block at a share is its two halves. -/
theorem x_halves (q : PosShare TreeShare) (f : Buf (Elt F) (xM.view.loc (c : Thread nD τ))) :
    (xM.view.loc (c : Thread nD τ) ↦{q} f : sProp 𝕄)
      ⊣⊢ iprop(((halfM 0).view.loc (c : Thread nD τ) ↦[(halfM 0).view.set]{q} f) ∗ ((halfM 1).view.loc (c : Thread nD τ) ↦[(halfM 1).view.set]{q} f)) := by
  show (xM.view.loc (c : Thread nD τ) ↦[Finset.univ]{q} f : sProp 𝕄) ⊣⊢ _
  rw [halves_all]
  exact pointsTo_union (halves_apart c)

theorem xPts_eq : xPts m ρ c = (xM.view.loc (c : Thread nD τ) ↦{fullShare.right} xBlk m ρ c : sProp 𝕄) := by
  unfold xPts; rw [show (xM.view.set : Finset (Idx (xM.view.loc (c : Thread nD τ)))) = Finset.univ from View.set_whole _]

/-- The own block whole: the share for the products, and the halves at the two shares lent to the hops. -/
theorem x_cut : (xM.view.loc (c : Thread nD τ) ↦{fullShare} xBlk m ρ c : sProp 𝕄)
    ⊣⊢ iprop(((lentPts m ρ c true 0 0 ∗ lentPts m ρ c true 0 1) ∗ (lentPts m ρ c false 0 0 ∗ lentPts m ρ c false 0 1)) ∗ xPts m ρ c) := by
  refine (pointsTo_share (PosShare.mem_left_op_right fullShare)).trans ?_
  rw [xPts_eq]
  refine sep_congr_left ?_
  refine (pointsTo_share (PosShare.mem_left_op_right fullShare.left)).trans ?_
  exact (sep_congr_left (x_halves c fullShare.left.left (xBlk m ρ c))).trans (sep_congr_right (x_halves c fullShare.left.right (xBlk m ρ c)))

end Cert.Gather
-- ==== Proof.Ghost.lean ====
/-
The ghost state at the launch: the cells and slots with their tokens, minted under the names of the devices that use
them, and their invariants allocated from the semaphores at zero.
-/
module

public import proofs.«01_k».proof.Proof.Tokens

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-! ## Names -/

theorem cell_injective : Function.Injective (fun y : Dev nD × Cid => cell y.1 y.2) := by
  rintro ⟨c, x⟩ ⟨c', x'⟩ h
  have h1 : c = c' := congrArg (fun g : GSem nD τ sig => g.1.1) h
  have h2 : csem x = csem x' := congrArg Prod.snd h
  rw [h1, csem_injective h2]
def allCells : Finset (GSem nD τ sig) := Finset.univ.map ⟨_, cell_injective⟩

/-- The duties a device pays: of the barriers, of the credits, of both ends of the hops. -/
inductive Tid where
  | bar (d : Bool)
  | cr (d : Bool) (k : Fin 4)
  | snd (d : Bool) (j : Fin 8) (p : Fin 2)
  | rcv (d : Bool) (j : Fin 8) (p : Fin 2)
  deriving DecidableEq, Fintype

/-- The device whose cell the duty is of. -/
def Tid.dev (c : Dev nD) : Tid → Dev nD
  | .bar d => nbr (!d) c
  | .cr d _ => nbr (!d) c
  | .snd _ _ _ => c
  | .rcv d _ _ => nbr d c
/-- The cell, the round, the duty. -/
def Tid.cid : Tid → Cid
  | .bar _ => .bar
  | .cr d _ => .cr d
  | .snd d j p => .snd d (slotOf j.val) p
  | .rcv d j p => .rcv d (slotOf j.val) p
def Tid.round : Tid → ℕ
  | .bar _ => 0
  | .cr _ _ => 0
  | .snd _ j _ => j.val / 4
  | .rcv _ j _ => j.val / 4
def Tid.no : Tid → ℕ
  | .bar d => barDuty d
  | .cr _ k => k.val + 1
  | .snd _ _ _ => 0
  | .rcv _ _ _ => 0

theorem tid_injective : Function.Injective (fun t : Tid => (t.cid, t.round, t.no)) := by decide +kernel
theorem dev_injective (t : Tid) : Function.Injective fun c => t.dev c := by
  have h : ∀ d, Function.Injective (nbr d) := fun d => (nbrEquiv d).injective
  cases t with
  | bar d => exact h (!d)
  | cr d k => exact h (!d)
  | snd d j p => exact fun _ _ h => h
  | rcv d j p => exact h d

def tokOf (y : Dev nD × Tid) : GSem nD τ sig × ℕ × ℕ := (cell (y.2.dev y.1) y.2.cid, y.2.round, y.2.no)
theorem tokOf_injective : Function.Injective tokOf := by
  rintro ⟨c, t⟩ ⟨c', t'⟩ h
  have hc := cell_injective (a₁ := (t.dev c, t.cid)) (a₂ := (t'.dev c', t'.cid)) (congrArg Prod.fst h)
  have h2 := congrArg Prod.snd h
  have ht : t = t' := tid_injective (Prod.ext (congrArg Prod.snd hc) h2)
  subst ht
  rw [dev_injective t (congrArg Prod.fst hc)]
def allToks : Finset (GSem nD τ sig × ℕ × ℕ) := Finset.univ.map ⟨tokOf, tokOf_injective⟩

/-- The element the launch starts from. -/
def u₀ : UU :=
  (initOf (Pipeline.cells cfgs cellOf_inj) (Pipeline.launchToks cfgs cellOf_inj), (initOf allCells allToks, initSlots Finset.univ 1))

/-! ## What a device is dealt -/

/-- The slots as another device names them. -/
def keyEquiv : Key ≃ Key where
  toFun k := (nbr k.2.1 k.1, k.2)
  invFun k := (nbr (!k.2.1) k.1, k.2)
  left_inv k := Prod.ext (nbr_nbr' k.2.1 k.1) rfl
  right_inv k := Prod.ext (nbr_nbr k.2.1 k.1) rfl

/-- The places at a device's cells, the duties it pays, the records of its slots, the rights to its neighbours' slots. -/
def dealt : sProp 𝕄 :=
  iprop((bigSep Finset.univ fun x : Cid => atPos ER (cell c x) 0 ∅ 0)
    ∗ (bigSep Finset.univ fun t : Tid => dutyTok ER (cell (t.dev c) t.cid) t.round t.no)
    ∗ (bigSep Finset.univ fun s : Bool × Fin 4 => readerAt ES (c, s) 0)
    ∗ (bigSep Finset.univ fun s : Bool × Fin 4 => writeTok ES (keyEquiv (c, s)) 1))

/-- What every device may know of the cells before their invariants are made. -/
def known (ιs : Key → ℕ) : sProp 𝕄 :=
  iprop((bigSep Finset.univ fun y : Dev nD × Cid => reached ER (cell y.1 y.2) 0) ∗ (bigSep Finset.univ fun k : Key => slotInv ES (ιs k) k (keySlot k)))
instance known_persistent (ιs : Key → ℕ) : BI.Persistent (known (F := F) ιs) := by unfold known; infer_instance

/-- What the launch deals a device, and what is made of it. -/
def G : sProp 𝕄 := iprop((bigSep Finset.univ fun x : Cid => roundState ER (sched m ρ) (cell c x) 0) ∗ (∃ ιs, known ιs) ∗ dealt c)
def G' : sProp 𝕄 :=
  iprop(∃ (κ : Dev nD × Cid → ℕ) (ιs : Key → ℕ), (bigSep Finset.univ fun y : Dev nD × Cid => cellInv ER (sched m ρ) (κ y) (cell y.1 y.2)) ∗ known ιs ∗ dealt c)

theorem cells_split (Φ : GSem nD τ sig → sProp 𝕄) : bigSep allCells Φ = bigSep Finset.univ fun y : Dev nD × Cid => Φ (cell y.1 y.2) := by
  unfold allCells; rw [bigSep_map]; rfl
theorem toks_split : bigSep allToks (fun x => (dutyTok ER x.1 x.2.1 x.2.2 : sProp 𝕄))
    = bigSep Finset.univ fun c : Dev nD => bigSep Finset.univ fun t : Tid => dutyTok ER (cell (t.dev c) t.cid) t.round t.no := by
  unfold allToks; rw [bigSep_map, bigSep_univ_prod]; rfl
theorem write_split : bigSep ((Finset.univ : Finset Key) ×ˢ Finset.range 1) (fun x => (writeTok ES x.1 (x.2 + 1) : sProp 𝕄))
    = bigSep Finset.univ fun c : Dev nD => bigSep Finset.univ fun s : Bool × Fin 4 => writeTok ES (keyEquiv (c, s)) 1 := by
  have h : (Finset.univ : Finset Key) ×ˢ Finset.range 1 = Finset.univ.map ⟨fun k : Key => (k, 0), fun _ _ h => congrArg Prod.fst h⟩ := by
    ext ⟨k, i⟩
    refine Finset.mem_product.trans (Iff.trans ?_ Finset.mem_map.symm)
    refine ⟨fun hx => ⟨k, Finset.mem_univ _, ?_⟩, fun ⟨k', _, hk⟩ => ⟨Finset.mem_univ _, ?_⟩⟩
    · have hi : i < 1 := Finset.mem_range.mp hx.2
      obtain rfl : i = 0 := by omega
      rfl
    · have hi : 0 = i := congrArg Prod.snd hk
      subst hi
      exact Finset.mem_range.mpr Nat.one_pos
  rw [h, bigSep_map, bigSep_univ_equiv keyEquiv, bigSep_univ_prod]
  rfl
theorem read_split : bigSep (Finset.univ : Finset Key) (fun k => (readerAt ES k 0 : sProp 𝕄))
    = bigSep Finset.univ fun c : Dev nD => bigSep Finset.univ fun s : Bool × Fin 4 => readerAt ES (c, s) 0 := bigSep_univ_prod _

theorem slots_alloc : BI.own (ES (initSlots (Finset.univ : Finset Key) 1)) ⊢ |={Set.univ}=> (∃ ιs : Key → ℕ,
    (bigSep Finset.univ fun k : Key => slotInv ES (ιs k) k (keySlot k)) ∗ (bigSep Finset.univ fun k : Key => readerAt ES k 0)
      ∗ bigSep ((Finset.univ : Finset Key) ×ˢ Finset.range 1) fun x => writeTok ES x.1 (x.2 + 1) : sProp 𝕄) := by
  iintro H
  imod (slots_init (Es := Set.univ) ES (Finset.univ : Finset Key) 1 keySlot) $$ H with ⟨%ιs, -, H⟩
  imodintro
  iexists ιs
  iexact H

theorem known_intro (ιs : Key → ℕ) :
    iprop((bigSep Finset.univ fun y : Dev nD × Cid => reached ER (cell y.1 y.2) 0) ∗ (bigSep Finset.univ fun k : Key => slotInv ES (ιs k) k (keySlot k)))
      ⊢ (known ιs : sProp 𝕄) := .rfl

theorem deal (ιs : Key → ℕ) : iprop(known ιs ∗ bigSep Finset.univ fun c : Dev nD =>
      iprop((bigSep Finset.univ fun x : Cid => roundState ER (sched m ρ) (cell c x) 0) ∗ dealt c)) ⊢ bigSep Finset.univ (G m ρ) :=
  bigSep_with_persistent fun c _ => by
    unfold G
    iintro ⟨#H, H1, H2⟩
    isplitl [H1]; · iexact H1
    isplitr; · iexists ιs; iexact H
    iexact H2

/-- Funding the cells and the slots. -/
theorem fund_all : BI.own ((embR : Emb (UB × USlots Key) 𝕄) (initOf allCells allToks, initSlots Finset.univ 1))
    ⊢ |={Set.univ}=> bigSep Finset.univ (G m ρ) := by
  iintro H
  ihave H := (own_pair_emb (embR : Emb (UB × USlots Key) 𝕄) (initOf allCells allToks) (initSlots Finset.univ 1)) $$ H
  icases H with ⟨HR, HS⟩
  imod (Rounds.fund ER (sched m ρ) allCells allToks) $$ HR with ⟨Hst, Hr, Hat, Htok⟩
  imod (slots_alloc (F := F)) $$ HS with ⟨%ιs, Hsl, Hrd, Hwr⟩
  imodintro
  ihave Hst := (Entails.of_eq ((cells_split fun g => roundState ER (sched m ρ) g 0).trans (bigSep_univ_prod _))) $$ Hst
  ihave Hat := (Entails.of_eq ((cells_split (F := F) fun g => atPos ER g 0 ∅ 0).trans (bigSep_univ_prod _))) $$ Hat
  ihave Hr := (Entails.of_eq (cells_split (F := F) fun g => reached ER g 0)) $$ Hr
  ihave Htok := (Entails.of_eq (toks_split (F := F))) $$ Htok
  ihave Hrd := (Entails.of_eq (read_split (F := F))) $$ Hrd
  ihave Hwr := (Entails.of_eq (write_split (F := F))) $$ Hwr
  iapply (deal m ρ ιs)
  isplitl [Hr Hsl]
  · iapply (known_intro (F := F) ιs)
    isplitl [Hr] <;> iassumption
  · unfold dealt
    simp only [bigSep_sep']
    isplitl [Hst]; · iexact Hst
    isplitl [Hat]; · iexact Hat
    isplitl [Htok]; · iexact Htok
    isplitl [Hrd] <;> iassumption

/-! ## The semaphores -/

/-- The kernel's own semaphores: all but the barrier's, which is the runtime's. -/
abbrev Oid : Type := {x : Cid // x ≠ .bar}
def osem (x : Oid) : SemLoc sig := csem x.1
theorem ownSemFacts : Pipeline.OwnSemFacts cfg0.spec osem where
  isScoped := by
    have h : ∀ x : Cid, x ≠ .bar → (csem x).isScoped .tc = true := by decide +kernel
    exact fun x => h x.1 x.2
  inj x y h := Subtype.ext (csem_injective h)
  disj := by
    have h : ∀ (x : Cid) (w : Fin 3) (s : Fin (spec0 w).nbuf), x ≠ .bar → csem x ≠ .dma ((spec0 w).sem s) := by decide +kernel
    exact fun x w s => h x.1 w s x.2

theorem unscoped_eq : (unscopedSems0 c : sProp 𝕄) = semVal (cell c .bar) 0 := by
  unfold unscopedSems0; rw [bigSep_eq_bigSepL_of_eq [SemLoc.reg barSem] (by decide) (by decide)]; rfl
theorem sems_eq : iprop(Pipeline.ownSems0 (Ix := ℕ) (Name := ℕ) (U := UU) (Lvl := ℕ) (Val := Elt F) (τ := τ) osem c ∗ unscopedSems0 c)
    ⊣⊢ (bigSep Finset.univ fun x : Cid => semVal (cell c x) 0 : sProp 𝕄) := by
  rw [unscoped_eq, bigSep_univ_at _ Cid.bar, ← bigSep_subtype_ne]
  exact sep_comm

/-! ## The invariants -/

theorem cells_alloc : iprop((bigSep Finset.univ fun x : Cid => semVal (cell c x) 0) ∗ bigSep Finset.univ fun x : Cid => roundState ER (sched m ρ) (cell c x) 0)
    ⊢ (|={Set.univ}=> bigSep Finset.univ fun x => iprop(∃ κ : ℕ, cellInv ER (sched m ρ) κ (cell c x)) : sProp 𝕄) := by
  rw [← bigSep_sep']
  exact (bigSep_mono fun x _ => (Rounds.body_intro ER (sched m ρ) (cell c x)).trans inv_alloc).trans (bigSep_fupd _ _)

theorem core_alloc : iprop(Pipeline.ownSems0 (Ix := ℕ) (Name := ℕ) (U := UU) (Lvl := ℕ) (Val := Elt F) (τ := τ) osem c ∗ unscopedSems0 c ∗ G m ρ c)
    ⊢ |={Set.univ}=> iprop((bigSep Finset.univ fun x => iprop(∃ κ : ℕ, cellInv ER (sched m ρ) κ (cell c x))) ∗ (∃ ιs, known ιs) ∗ dealt c) := by
  unfold G
  iintro ⟨Hos, Hus, Hst, Hk, Hd⟩
  ihave Hv := (sems_eq (F := F) c).1 $$ [Hos Hus]
  · isplitl [Hos] <;> iassumption
  imod (cells_alloc m ρ c) $$ [Hv Hst] with Hinv
  · isplitl [Hv] <;> iassumption
  imodintro
  isplitl [Hinv]; · iexact Hinv
  isplitl [Hk] <;> iassumption

theorem regroup : (bigSep Finset.univ fun c : Dev nD => iprop((bigSep Finset.univ fun x => iprop(∃ κ : ℕ, cellInv ER (sched m ρ) κ (cell c x))) ∗ (∃ ιs, known ιs) ∗ dealt c) : sProp 𝕄)
    ⊢ bigSep Finset.univ (G' m ρ) := by
  rw [bigSep_sep', ← bigSep_univ_prod (fun y : Dev nD × Cid => iprop(∃ κ : ℕ, cellInv ER (sched m ρ) κ (cell y.1 y.2)))]
  iintro ⟨HI, H⟩
  ihave HK := (BI.bigSep_exists_pi Finset.univ (fun (y : Dev nD × Cid) (κ : ℕ) => (cellInv ER (sched m ρ) κ (cell y.1 y.2) : sProp 𝕄))) $$ HI
  icases HK with ⟨%κ, #HI⟩
  iapply (bigSep_with_persistent (S := Finset.univ) (R := bigSep Finset.univ fun y : Dev nD × Cid => cellInv ER (sched m ρ) (κ y) (cell y.1 y.2))
    (Φ := fun c : Dev nD => iprop((∃ ιs, known ιs) ∗ dealt c)) fun c _ => by
      unfold G'
      iintro ⟨#HI, ⟨%ιs, Hk⟩, Hd⟩
      iexists κ; iexists ιs
      isplitr; · iexact HI
      isplitl [Hk] <;> iassumption)
  isplitr; · iexact HI
  iexact H

/-- The step of all devices at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Gather
-- ==== Proof.Dues.lean ====
/-
The credit a device is dealt at the launch: for every payment of a neighbour into one of its cells.
-/
module

public import proofs.«01_k».proof.Proof.Tokens

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-- The name of the cell an operation pays into, and whose it is. -/
def payCid : Op → Cid
  | .sigBar _ => .bar
  | .send d j p => .rcv d (slotOf j) p
  | .sigCr d _ => .cr d
  | _ => .bar
def payDev : Op → Dev nD ≃ Dev nD
  | .sigBar d => nbrEquiv (!d)
  | .send d _ _ => nbrEquiv d
  | .sigCr d _ => nbrEquiv (!d)
  | _ => Equiv.refl _
theorem target_eq (o : Op) : target c o = cell (payDev o c) (payCid o) := by cases o <;> rfl

/-- The credit of a payment to come. -/
def dueOf (o : Op) : sProp 𝕄 := cred (tallyAt (cell c (payCid o)) (time o) (worth o))

theorem due_one (o : Op) : (Pipeline.launchCred (fun d => tallyAt (target d o) (time o) (worth o)) c : sProp 𝕄) ⊢ dueOf c o := by
  rw [show (fun d : Dev nD => tallyAt (target d o) (time o) (worth o)) = fun d => tallyAt (cell (payDev o d) (payCid o)) (time o) (worth o) from
    funext fun d => by rw [target_eq]]
  exact Pipeline.launchCred_tallyAt (csem (payCid o)) (payDev o) (payDev o).symm (payDev o).apply_symm_apply (payDev o).symm_apply_apply (time o) (worth o) c

theorem dues : ∀ l : List Op, (Pipeline.launchCred (fun d => owedBy d l) c : sProp 𝕄) ⊢ sepAll l (dueOf c)
  | [] => Entails.of_eq (Pipeline.launchCred_zero c)
  | o :: l => by
    rw [sepAll_cons]
    refine (Entails.of_eq (Pipeline.launchCred_add (fun d => owedBy d l) (fun d => tallyAt (target d o) (time o) (worth o)) c)).trans ?_
    iintro ⟨H1, H2⟩
    isplitl [H2]
    · iapply (due_one c o); iexact H2
    · iapply (dues l); iexact H1

/-- The credits by what they are for. -/
def dirCredits : List (Bool × ℕ) := dirs.flatMap fun d => [1, 2, 3, 4].map fun k => (d, k)
def dirHops : List (Bool × Fin 8 × Fin 2) := dirs.flatMap fun d => (List.finRange 8).flatMap fun j => (halves d j.val).map fun p => (d, j, p)

theorem pays_perm : payOps.Perm ([Op.sigBar true, Op.sigBar false]
    ++ (dirCredits.map (fun x => Op.sigCr x.1 x.2) ++ dirHops.map fun x => Op.send x.1 x.2.1.val x.2.2)) := by decide +kernel

/-- The tokens the launch's credit is. -/
def dueToks : List Res := .bcred :: (dirCredits.map (fun x => Res.ccred x.1 x.2) ++ dirHops.map fun x => Res.rcred x.1 x.2.1.val x.2.2)

theorem time_bar : time (.sigBar true) = 1 ∧ time (.sigBar false) = 2 := by decide +kernel

theorem due_bar : iprop(dueOf (F := F) c (.sigBar true) ∗ dueOf c (.sigBar false)) ⊢ res m ρ c .bcred := by
  show iprop(cred (tallyAt (cell c .bar) (time (.sigBar true)) 1) ∗ cred (tallyAt (cell c .bar) (time (.sigBar false)) 1))
    ⊢ cred (tallyOn (cell c .bar) (Finsupp.single 1 1 + Finsupp.single 2 1))
  rw [time_bar.1, time_bar.2, tallyOn_add]
  exact (cred_add _ _).2

theorem dues_intro : (Pipeline.launchCred (fun d => owedAfter d 0) c : sProp 𝕄) ⊢ held m ρ c dueToks := by
  refine (dues c payOps).trans ((sepAll_perm pays_perm (dueOf c)).trans ?_)
  unfold held dueToks
  refine (sepAll_append _ _ _).1.trans ?_
  rw [sepAll_cons]
  refine BIClass.sep_mono ?_ ?_
  · show iprop(dueOf c (.sigBar true) ∗ dueOf c (.sigBar false) ∗ emp) ⊢ _
    iintro ⟨H1, H2, -⟩
    iapply (due_bar m ρ c)
    isplitl [H1] <;> iassumption
  · refine (sepAll_append _ _ _).1.trans (BIBase.Entails.trans ?_ (sepAll_append _ _ _).2)
    rw [sepAll_map, sepAll_map, sepAll_map, sepAll_map]
    exact .rfl

end Cert.Gather
-- ==== Proof.Enter.lean ====
/-
A device's tokens at the start of the body, made of what the launch deals it and of its buffers.
-/
module

public import proofs.«01_k».proof.Proof.Buffers
public import proofs.«01_k».proof.Proof.Ghost
public import proofs.«01_k».proof.Proof.Dues

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (c : Dev nD)

/-! ## The groups of tokens -/

/-- All cells of a device. -/
def allCid : List Cid := .bar :: dirs.flatMap fun d => .cr d :: (quads.map (fun x => Cid.snd d x.1 x.2) ++ quads.map fun x => Cid.rcv d x.1 x.2)
theorem allCid_nodup : allCid.Nodup := by decide +kernel
theorem allCid_all : allCid.toFinset = Finset.univ := by decide +kernel
/-- The directions and the credits, from zero. -/
def crIdx : List (Bool × Fin 4) := dirs.flatMap fun d => (List.finRange 4).map fun k => (d, k)

/-- The first place at a cell. -/
def posRes : Cid → Res
  | .bar => .bpos
  | .cr d => .cpos d 0
  | .snd d q p => .spos d q.val p
  | .rcv d q p => .rpos d q.val p
def posToks : List Res := allCid.map posRes
def barToks : List Res := [.btok true, .btok false]
def ctokToks : List Res := crIdx.map fun x => .ctok x.1 (x.2.val + 1)
def hopToks : List Res := dirHops.map fun x => .tok x.1 x.2.1.val x.2.2
def rdrToks : List Res := crIdx.map fun x => .rdr x.1 (x.2.val + 1)
def wtokToks : List Res := crIdx.map fun x => .wtok x.1 (x.2.val + 1)
def hdToks : List Res := [.hd true 0, .hd false 0]
def ownToks (d : Bool) : List Res := quads.map fun x => .own d x.1 x.2
def bufToks : List Res := [.xkeep, .wbuf, .out 0, .lent true 0 0, .lent true 0 1, .lent false 0 0, .lent false 0 1]
def groups : List Res :=
  posToks ++ (barToks ++ (ctokToks ++ (hopToks ++ (rdrToks ++ (wtokToks ++ (hdToks ++ (dueToks ++ (ownToks true ++ (ownToks false ++ bufToks)))))))))
theorem groups_perm : groups.Perm start := by decide +kernel

theorem held_append (l l' : List Res) : iprop(held m ρ c l ∗ held m ρ c l') ⊢ held m ρ c (l ++ l') := (sepAll_append l l' (res m ρ c)).2

/-! ## Each group -/

theorem first_place (x : Cid) : iprop(shared m ρ κ ιs ∗ atPos ER (cell c x) 0 ∅ 0) ⊢ res m ρ c (posRes x) := by
  have hs (q : Fin 4) : slotOf q.val = q ∧ q.val / 4 = 0 := by revert q; decide
  cases x with
  | bar =>
    show _ ⊢ atPos ER (cell c .bar) 0 ∅ 0
    iintro ⟨-, H⟩; iexact H
  | cr d =>
    show _ ⊢ iprop(∃ (S : Finset ℕ) (n : ℕ), ⌜S ⊆ {1, 2, 3, 4} ∧ 0 ≤ S.card ∧ ∀ i ∈ S, i ≤ n⌝ ∗ atPos ER (cell c (.cr d)) 0 S 0 ∗ heard (nbr d c) d n)
    iintro ⟨-, H⟩
    iexists ∅; iexists 0
    isplitr
    · ipureintro
      exact ⟨Finset.empty_subset _, Nat.zero_le _, fun i hi => absurd hi (Finset.notMem_empty i)⟩
    isplitl [H]; · iexact H
    iapply (show iprop(emp) ⊢ (heard (nbr d c) d 0 : sProp 𝕄) from .rfl)
    iempintro
  | snd d q p =>
    show _ ⊢ iprop(atPos ER (cell c (.snd d (slotOf q.val) p)) (q.val / 4) ∅ 0 ∗ reached ER (cell c (.snd d (slotOf q.val) p)) (q.val / 4))
    rw [(hs q).1, (hs q).2]
    iintro ⟨#HR, H⟩
    isplitl [H]; · iexact H
    iapply (shared_reached m ρ κ ιs c (.snd d q p)); iexact HR
  | rcv d q p =>
    show _ ⊢ iprop(atPos ER (cell c (.rcv d (slotOf q.val) p)) (q.val / 4) ∅ 0 ∗ reached ER (cell c (.rcv d (slotOf q.val) p)) (q.val / 4))
    rw [(hs q).1, (hs q).2]
    iintro ⟨#HR, H⟩
    isplitl [H]; · iexact H
    iapply (shared_reached m ρ κ ιs c (.rcv d q p)); iexact HR

theorem enter_pos : iprop(shared m ρ κ ιs ∗ bigSep Finset.univ fun x : Cid => atPos ER (cell c x) 0 ∅ 0) ⊢ held m ρ c posToks := by
  have h : (bigSep Finset.univ fun x : Cid => atPos ER (cell c x) 0 ∅ 0 : sProp 𝕄) ⊢ sepAll allCid fun x : Cid => atPos ER (cell c x) 0 ∅ 0 :=
    all_list _ allCid allCid_nodup
  have h2 : iprop(shared m ρ κ ιs ∗ sepAll allCid fun x : Cid => atPos ER (cell c x) 0 ∅ 0) ⊢ held m ρ c posToks := by
    unfold held posToks
    rw [sepAll_map]
    exact sepAll_frame fun x _ => first_place m ρ κ ιs c x
  exact (sep_mono_right h).trans h2

/-- The duties a device pays, as a list. -/
def tidList : List Tid :=
  [.bar true, .bar false] ++ (crIdx.map (fun x => .cr x.1 x.2)
    ++ (dirHops.map (fun x => .snd x.1 x.2.1 x.2.2) ++ dirHops.map fun x => .rcv x.1 x.2.1 x.2.2))
theorem tidList_nodup : tidList.Nodup := by decide +kernel

theorem enter_toks : (bigSep Finset.univ fun t : Tid => dutyTok ER (cell (t.dev c) t.cid) t.round t.no)
    ⊢ iprop(held m ρ c barToks ∗ held m ρ c ctokToks ∗ held m ρ c hopToks) := by
  refine (all_list _ tidList tidList_nodup).trans ?_
  unfold tidList
  refine (sepAll_append _ _ _).1.trans (BIClass.sep_mono .rfl ?_)
  refine (sepAll_append _ _ _).1.trans (BIClass.sep_mono ?_ ?_)
  · unfold held ctokToks
    rw [sepAll_map, sepAll_map]
    exact .rfl
  · refine (sepAll_append _ _ _).1.trans ?_
    unfold held hopToks
    rw [sepAll_map, sepAll_map, sepAll_map]
    exact sepAll_sep_intro dirHops _ _

theorem enter_readers : (bigSep Finset.univ fun s : Bool × Fin 4 => readerAt ES (c, s) 0) ⊢ held m ρ c rdrToks := by
  refine (all_list _ (crIdx.map fun x => (x.1, slotOf (x.2.val + 1))) (by decide +kernel)).trans ?_
  unfold held rdrToks
  rw [sepAll_map, sepAll_map]
  exact .rfl
theorem enter_writers : (bigSep Finset.univ fun s : Bool × Fin 4 => writeTok ES (keyEquiv (c, s)) 1) ⊢ held m ρ c wtokToks := by
  refine (all_list _ (crIdx.map fun x => (x.1, slotOf (x.2.val + 1))) (by decide +kernel)).trans ?_
  unfold held wtokToks
  rw [sepAll_map, sepAll_map]
  exact .rfl
theorem enter_heard : iprop(emp) ⊢ held m ρ c hdToks := by
  show iprop(emp) ⊢ iprop(emp ∗ emp ∗ emp)
  iintro -
  isplitr; · iempintro
  isplitr <;> iempintro
theorem enter_own (d : Bool) : commAny (F := F) c d ⊢ held m ρ c (ownToks d) := by
  unfold held ownToks
  rw [sepAll_map]
  exact comm_cut c d

/-- The buffers of the windows, filled. -/
def staged (f : outBuf F c) : sProp 𝕄 :=
  iprop((xM.view.loc (c : Thread nD τ) ↦{fullShare} xBlk m ρ c) ∗ (wM.view.loc (c : Thread nD τ) ↦{fullShare} wBlk m ρ c)
    ∗ (oM.view.loc (c : Thread nD τ) ↦{fullShare} f))

theorem w_whole : (wM.view.loc (c : Thread nD τ) ↦{fullShare} wBlk m ρ c : sProp 𝕄) = wPts m ρ c := by
  unfold wPts; rw [show (wM.view.set : Finset (Idx (wM.view.loc (c : Thread nD τ)))) = Finset.univ from View.set_whole _]
theorem o_whole (f : outBuf F c) : (oM.view.loc (c : Thread nD τ) ↦[oM.view.set]{fullShare} f : sProp 𝕄) = (oM.view.loc (c : Thread nD τ) ↦{fullShare} f) := by
  rw [show (oM.view.set : Finset (Idx (oM.view.loc (c : Thread nD τ)))) = Finset.univ from View.set_whole _]

theorem enter_bufs (f : outBuf F c) : staged m ρ c f ⊢ held m ρ c bufToks := by
  unfold staged
  have ho : (oM.view.loc (c : Thread nD τ) ↦{fullShare} f : sProp 𝕄) ⊢ outPts m ρ c 0 := by
    rw [← o_whole]
    unfold outPts
    iintro H
    iexists f
    iexact H
  show _ ⊢ iprop(xPts m ρ c ∗ wPts m ρ c ∗ outPts m ρ c 0 ∗ lentPts m ρ c true 0 0 ∗ lentPts m ρ c true 0 1 ∗ lentPts m ρ c false 0 0 ∗ lentPts m ρ c false 0 1 ∗ emp)
  rw [w_whole]
  iintro ⟨Hx, Hw, Ho⟩
  ihave Hx := (x_cut m ρ c).1 $$ Hx
  ihave Ho := ho $$ Ho
  icases Hx with ⟨⟨⟨H1, H2⟩, H3, H4⟩, Hx⟩
  isplitl [Hx]; · iexact Hx
  isplitl [Hw]; · iexact Hw
  isplitl [Ho]; · iexact Ho
  isplitl [H1]; · iexact H1
  isplitl [H2]; · iexact H2
  isplitl [H3]; · iexact H3
  isplitl [H4]; · iexact H4
  iempintro

/-! ## The start -/

theorem enter (f : outBuf F c) : iprop(shared m ρ κ ιs ∗ dealt c ∗ held m ρ c dueToks ∗ staged m ρ c f ∗ commAny c true ∗ commAny c false)
    ⊢ held m ρ c start := by
  refine BIBase.Entails.trans ?_ (sepAll_perm groups_perm (res m ρ c))
  show _ ⊢ held m ρ c groups
  unfold dealt groups
  iintro ⟨#Hsh, ⟨Hp, Ht, Hr, Hw⟩, Hd, Hb, Hct, Hcf⟩
  ihave Ht := (enter_toks m ρ c) $$ Ht
  icases Ht with ⟨Hbar, Hctok, Hhop⟩
  iapply (held_append m ρ c)
  isplitl [Hp]
  · iapply (enter_pos m ρ κ ιs c); isplitr; · iexact Hsh
    iexact Hp
  iapply (held_append m ρ c)
  isplitl [Hbar]; · iexact Hbar
  iapply (held_append m ρ c)
  isplitl [Hctok]; · iexact Hctok
  iapply (held_append m ρ c)
  isplitl [Hhop]; · iexact Hhop
  iapply (held_append m ρ c)
  isplitl [Hr]; · iapply (enter_readers m ρ c); iexact Hr
  iapply (held_append m ρ c)
  isplitl [Hw]; · iapply (enter_writers m ρ c); iexact Hw
  iapply (held_append m ρ c)
  isplitr; · iapply (enter_heard m ρ c); iempintro
  iapply (held_append m ρ c)
  isplitl [Hd]; · iexact Hd
  iapply (held_append m ρ c)
  isplitl [Hct]; · iapply (enter_own m ρ c true); iexact Hct
  iapply (held_append m ρ c)
  isplitl [Hcf]; · iapply (enter_own m ρ c false); iexact Hcf
  iapply (enter_bufs m ρ c f); iexact Hb

end Cert.Gather
-- ==== Proof.Leave.lean ====
/-
What a device's tokens are worth at the end of the body: all semaphores at zero, the landing buffers, the buffers of the
windows with the result in place.
-/
module

public import proofs.«01_k».proof.Proof.Enter
public import proofs.«01_k».proof.Proof.Cover

@[expose] public section

set_option maxRecDepth 65536

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Cid → ℕ) (ιs : Key → ℕ)
variable (c : Dev nD)

/-! ## The groups of tokens -/

/-- The last place at a cell. -/
def endRes : Cid → Res
  | .bar => .bdone
  | .cr d => .cpos d 4
  | .snd d q p => .spos d (lastHop d (q, p)) p
  | .rcv d q p => .rpos d (lastHop d (q, p)) p
def endToks : List Res := allCid.map endRes
def lastToks (d : Bool) : List Res := quads.flatMap fun x => [.lent d (lastIn d x) x.2, .keep d (lastIn d x) x.2]
def doneToks : List Res := [.xkeep, .wbuf, .out 17, .lent true 0 0, .lent true 0 1, .lent false 0 0, .lent false 0 1]
def toldToks : List Res := [.hd true 4, .hd false 4]
def endGroups : List Res := endToks ++ (lastToks true ++ (lastToks false ++ (toldToks ++ doneToks)))
theorem end_perm : finish.Perm endGroups := by decide +kernel

theorem held_split (l l' : List Res) : held m ρ c (l ++ l') ⊢ iprop(held m ρ c l ∗ held m ρ c l') := (sepAll_append l l' (res m ρ c)).1

/-! ## The semaphores -/

theorem close_at (x : Cid) (R : ℕ) (h : ∀ r, R ≤ r → duty x r = ∅) : iprop(shared m ρ κ ιs ∗ atPos ER (cell c x) R ∅ 0) ⊢ |={Set.univ}=> (semVal (cell c x) 0 : sProp 𝕄) := by
  have hc := Rounds.cell_close (Es := Set.univ) (κ := κ (c, x)) (g := cell c x) (R := R) ER (sched m ρ) (Set.mem_univ _) (fun h => h)
    fun r hr => (duties_at m ρ c x r).trans (h r hr)
  iintro ⟨#HS, H⟩
  iapply hc
  isplitr
  · iapply (shared_cell m ρ κ ιs c x); iexact HS
  iexact H

theorem hops_over (d : Bool) (q : Fin 4) (p : Fin 2) : slotOf (lastHop d (q, p)) = q ∧ ∀ r, lastHop d (q, p) / 4 ≤ r → has d (4 * r + q.val) p = false := by
  have h0 : slotOf (lastHop d (q, p)) = q := by revert d q p; decide
  have h1 : has d (q.val + 4) p = false ∨ lastHop d (q, p) / 4 = 2 := by revert d q p; decide
  have h3 : 1 ≤ lastHop d (q, p) / 4 := by revert d q p; decide
  refine ⟨h0, fun r hr => ?_⟩
  by_cases h2 : 2 ≤ r
  · unfold has
    rw [decide_eq_false (by omega : ¬ 4 * r + q.val < 7), decide_eq_false (by omega : ¬ 4 * r + q.val = 7)]
    rfl
  · obtain rfl : r = 1 := by omega
    rcases h1 with h1 | h1
    · rw [show 4 * 1 + q.val = q.val + 4 by omega]; exact h1
    · omega

theorem close_end (x : Cid) : iprop(shared m ρ κ ιs ∗ res m ρ c (endRes x)) ⊢ |={Set.univ}=> (semVal (cell c x) 0 : sProp 𝕄) := by
  cases x with
  | bar => exact close_at m ρ κ ιs c .bar 1 fun r hr => if_neg (by omega)
  | cr d => exact close_at m ρ κ ιs c (.cr d) 1 fun r hr => if_neg (by omega)
  | snd d q p =>
    show iprop(_ ∗ (atPos ER (cell c (.snd d (slotOf (lastHop d (q, p))) p)) (lastHop d (q, p) / 4) ∅ 0 ∗ reached ER (cell c (.snd d (slotOf (lastHop d (q, p))) p)) (lastHop d (q, p) / 4))) ⊢ _
    rw [(hops_over d q p).1]
    iintro ⟨#HS, H, -⟩
    iapply (close_at m ρ κ ιs c (.snd d q p) (lastHop d (q, p) / 4) fun r hr => by
      show (if has d (4 * r + q.val) p then ({0} : Finset ℕ) else ∅) = ∅
      rw [(hops_over d q p).2 r hr]; rfl)
    isplitr; · iexact HS
    iexact H
  | rcv d q p =>
    show iprop(_ ∗ (atPos ER (cell c (.rcv d (slotOf (lastHop d (q, p))) p)) (lastHop d (q, p) / 4) ∅ 0 ∗ reached ER (cell c (.rcv d (slotOf (lastHop d (q, p))) p)) (lastHop d (q, p) / 4))) ⊢ _
    rw [(hops_over d q p).1]
    iintro ⟨#HS, H, -⟩
    iapply (close_at m ρ κ ιs c (.rcv d q p) (lastHop d (q, p) / 4) fun r hr => by
      show (if has d (4 * r + q.val) p then ({0} : Finset ℕ) else ∅) = ∅
      rw [(hops_over d q p).2 r hr]; rfl)
    isplitr; · iexact HS
    iexact H

theorem close_all : iprop(shared m ρ κ ιs ∗ held m ρ c endToks) ⊢ |={Set.univ}=> (bigSep Finset.univ fun x : Cid => semVal (cell c x) 0 : sProp 𝕄) := by
  have h : iprop(shared m ρ κ ιs ∗ held m ρ c endToks) ⊢ sepAll allCid fun x => iprop(|={Set.univ}=> (semVal (cell c x) 0 : sProp 𝕄)) := by
    unfold held endToks
    rw [sepAll_map]
    exact sepAll_frame fun x _ => close_end m ρ κ ιs c x
  exact (h.trans (list_all _ allCid allCid_nodup allCid_all)).trans (bigSep_fupd _ _)

/-! ## The buffers -/

theorem last_slot (d : Bool) (x : Fin 4 × Fin 2) : iprop(res m ρ c (.lent d (lastIn d x) x.2) ∗ res m ρ c (.keep d (lastIn d x) x.2)) ⊢ slotAny c d x.1 x.2 := by
  have h2 : slotOf (lastIn d x) = x.1 := by revert d x; decide
  have h1 : ∃ j, lastIn d x = j + 1 := by
    have h : 1 ≤ lastIn d x := by clear h2; revert d x; decide
    exact ⟨lastIn d x - 1, by omega⟩
  rw [← h2]
  obtain ⟨j, hj⟩ := h1
  rw [hj]
  refine (landed_join m ρ c d (slotOf (j + 1)) x.2 (origin d (j + 1) c)).trans ?_
  show _ ⊢ iprop(∃ f, (slotM d (slotOf (j + 1)) x.2).view.loc (c : Thread nD τ) ↦[(slotM d (slotOf (j + 1)) x.2).view.set]{fullShare} f)
  unfold slotPts
  iintro H
  iexists (slotBuf m ρ d c (origin d (j + 1) c))
  iexact H

theorem leave_comm (d : Bool) : held m ρ c (lastToks d) ⊢ commAny c d := by
  have h1 : held m ρ c (lastToks d) ⊢ sepAll quads fun x => sepAll [.lent d (lastIn d x) x.2, .keep d (lastIn d x) x.2] (res m ρ c) :=
    (sepAll_flatMap _ quads (res m ρ c)).1
  refine (h1.trans (sepAll_mono fun x _ => ?_)).trans (comm_join c d)
  show iprop(res m ρ c (.lent d (lastIn d x) x.2) ∗ res m ρ c (.keep d (lastIn d x) x.2) ∗ emp) ⊢ _
  iintro ⟨H1, H2, -⟩
  iapply (last_slot m ρ c d x)
  isplitl [H1] <;> iassumption

theorem leave_out : outPts m ρ c 17 ⊢ (oM.view.loc (c : Thread nD τ) ↦{fullShare} outAt m ρ c : sProp 𝕄) := by
  have h (f : outBuf F c) : (oM.view.loc (c : Thread nD τ) ↦[oM.view.set]{fullShare} outAfter m ρ c f 17 : sProp 𝕄) ⊢ (oM.view.loc (c : Thread nD τ) ↦{fullShare} outAt m ρ c) := by
    rw [o_whole]
    exact Entails.of_eq (congrArg (fun g : outBuf F c => (oM.view.loc (c : Thread nD τ) ↦{fullShare} g : sProp 𝕄)) (out_indep m ρ c f _))
  unfold outPts
  iintro ⟨%f, H⟩
  iapply (h f)
  iexact H

theorem leave_bufs : held m ρ c doneToks ⊢ staged m ρ c (outAt m ρ c) := by
  show iprop(xPts m ρ c ∗ wPts m ρ c ∗ outPts m ρ c 17 ∗ lentPts m ρ c true 0 0 ∗ lentPts m ρ c true 0 1 ∗ lentPts m ρ c false 0 0 ∗ lentPts m ρ c false 0 1 ∗ emp) ⊢ _
  unfold staged
  rw [w_whole]
  iintro ⟨Hx, Hw, Ho, H1, H2, H3, H4, -⟩
  isplitl [Hx H1 H2 H3 H4]
  · iapply (x_cut m ρ c).2
    isplitr [Hx]
    · isplitl [H1 H2]
      · isplitl [H1] <;> iassumption
      · isplitl [H3] <;> iassumption
    · iexact Hx
  isplitl [Hw]; · iexact Hw
  iapply (leave_out m ρ c); iexact Ho

/-! ## The end -/

theorem leave : iprop(shared m ρ κ ιs ∗ held m ρ c finish)
    ⊢ |={Set.univ}=> iprop((bigSep Finset.univ fun x : Cid => semVal (cell c x) 0) ∗ staged m ρ c (outAt m ρ c) ∗ commAny c true ∗ commAny c false) := by
  have h : held m ρ c finish ⊢ held m ρ c endGroups := sepAll_perm end_perm (res m ρ c)
  unfold endGroups at h
  iintro ⟨#HS, H⟩
  ihave H := h $$ H
  ihave H := (held_split m ρ c _ _) $$ H
  icases H with ⟨He, H⟩
  ihave H := (held_split m ρ c _ _) $$ H
  icases H with ⟨Ht, H⟩
  ihave H := (held_split m ρ c _ _) $$ H
  icases H with ⟨Hf, H⟩
  ihave H := (held_split m ρ c _ _) $$ H
  icases H with ⟨-, H⟩
  imod (close_all m ρ κ ιs c) $$ [He] with Hs
  · isplitr; · iexact HS
    iexact He
  imodintro
  isplitl [Hs]; · iexact Hs
  isplitl [H]; · iapply (leave_bufs m ρ c); iexact H
  isplitl [Ht]; · iapply (leave_comm m ρ c true); iexact Ht
  iapply (leave_comm m ρ c false); iexact Hf

end Cert.Gather
-- ==== Proof.Launch.lean ====
/-
The launch: the body between what the pipeline hands a device and what it takes back, the ghost state dealt, and the run
of the whole program on all devices.
-/
module

public import proofs.«01_k».proof.Proof.Run
public import proofs.«01_k».proof.Proof.Leave
public import proofs.«01_k».proof.Proof.Gen.KernelIdeal.Points
public import Idealize.ShloMosaic.Lib.Pipeline.CollectiveSegs

@[expose] public section

set_option maxRecDepth 65536

noncomputable section

namespace Cert.Gather

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-! ## The data of the pipeline -/

attribute [local irreducible] outAt

/-- What the launch gives a device besides its scratch buffers, and what the device holds before and after the body. -/
def given : sProp 𝕄 := iprop(G' m ρ c ∗ held m ρ c dueToks ∗ levAts L lv)
def before₀ : sProp 𝕄 := iprop(given m ρ c ∗ commAny c true ∗ commAny c false)
def after₀ : sProp 𝕄 := iprop((bigSep Finset.univ fun x : Cid => semVal (cell c x) 0) ∗ commAny c true ∗ commAny c false)

/-- The arrays the windows move, the blocks they leave, what is owed on the way. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xBlk m ρ c
    | ⟨1, _⟩ => wBlk m ρ c
    | ⟨2, _⟩ => outAt m ρ c
  Φ t := match t with
    | ⟨0, _⟩ => before₀ m ρ c
    | ⟨_ + 1, _⟩ => after₀ c
  q _ := fullShare
  owed t := match t with
    | ⟨0, _⟩ => owedAfter c 0
    | ⟨_ + 1, _⟩ => 0

theorem cfg0_N : cfg0.N = 1 := by decide
abbrev t₀ : Fin cfg0.N := ⟨0, by rw [cfg0_N]; decide⟩
theorem fin_N (t : Fin cfg0.N) : t = t₀ := by
  obtain ⟨t, ht⟩ := t; have := cfg0_N; simp only [t₀, Fin.mk.injEq]; omega

abbrev noVariants : Variants := Variants.none

theorem windows_split (Φ : Fin cfg0.W → sProp 𝕄) : bigSep Finset.univ Φ = iprop(Φ (0 : Fin 3) ∗ Φ (1 : Fin 3) ∗ Φ (2 : Fin 3)) := bigSep_W0 Φ

theorem owns_all (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer with given contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(before₀ m ρ c ∗ (dats m ρ 0 c).owesAt (0 : ℕ) t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost : sProp 𝕄 :=
  iprop(after₀ c ∗ (dats m ρ 0 c).owesAt (0 : ℕ) t₀.succ
    ∗ stg c cc0_stg0_0 (xBlk m ρ c) ∗ stg c cc0_stg1_0 (wBlk m ρ c) ∗ stg c cc0_stg2_0 (outAt m ρ c))

theorem before_x (d) : (dats m ρ 0 c).before (0 : Fin 3) t₀ d = xBlk m ρ c := by
  unfold Dat.before; rw [if_pos (fetch0_0 t₀)]; rfl
theorem before_w (d) : (dats m ρ 0 c).before (1 : Fin 3) t₀ d = wBlk m ρ c := by
  unfold Dat.before; rw [if_pos (fetch0_1 t₀)]; rfl

theorem pre_open : bodyPre m ρ c ⊢ iprop(∃ κ ιs, shared m ρ κ ιs ∗ owing c 0 ∗ held m ρ c start) := by
  have hs (κ : Dev nD × Cid → ℕ) (ιs : Key → ℕ) : iprop(levAts L lv ∗ (bigSep Finset.univ fun y : Dev nD × Cid => cellInv ER (sched m ρ) (κ y) (cell y.1 y.2)) ∗ known ιs)
      ⊢ shared m ρ κ ιs := .rfl
  have hst (f : outBuf F c) : iprop((((c : Thread nD τ).loc cc0_stg0_0) ↦{fullShare} xBlk m ρ c) ∗ (((c : Thread nD τ).loc cc0_stg1_0) ↦{fullShare} wBlk m ρ c)
      ∗ (((c : Thread nD τ).loc cc0_stg2_0) ↦{fullShare} f)) ⊢ staged m ρ c f := .rfl
  unfold bodyPre before₀ given G' Dat.owesAt Pipeline.owesWithin
  iintro ⟨⟨⟨⟨%κ, %ιs, #HI, #Hk, Hd⟩, Hdue, #Hlev⟩, Ht, Hf⟩, ⟨%W, -, HO⟩, ⟨%d0, %g0, %hg0, Hx⟩, ⟨%d1, %g1, %hg1, Hw⟩, ⟨%d2, %g2, -, Ho⟩⟩
  rw [before_x] at hg0
  rw [before_w] at hg1
  subst hg0 hg1
  iexists κ; iexists ιs
  ihave #HS := (hs κ ιs) $$ []
  · isplitr; · iexact Hlev
    isplitr; · iexact HI
    iexact Hk
  isplitr; · iexact HS
  isplitl [HO]
  · unfold owing; iexists W; iexact HO
  iapply (enter m ρ κ ιs c g2)
  isplitr; · iexact HS
  isplitl [Hd]; · iexact Hd
  isplitl [Hdue]; · iexact Hdue
  isplitl [Hx Hw Ho]
  · iapply (hst g2)
    isplitl [Hx]; · iexact Hx
    isplitl [Hw] <;> iassumption
  isplitl [Ht] <;> iassumption

theorem post_close (κ : Dev nD × Cid → ℕ) (ιs : Key → ℕ) : iprop(shared m ρ κ ιs ∗ owing c 40 ∗ held m ρ c finish) ⊢ |={Set.univ}=> bodyPost m ρ c := by
  have hst : staged m ρ c (outAt m ρ c) ⊢ iprop((((c : Thread nD τ).loc cc0_stg0_0) ↦{fullShare} xBlk m ρ c) ∗ (((c : Thread nD τ).loc cc0_stg1_0) ↦{fullShare} wBlk m ρ c)
      ∗ (((c : Thread nD τ).loc cc0_stg2_0) ↦{fullShare} outAt m ρ c)) := .rfl
  have hl := leave m ρ κ ιs c
  unfold owing
  rw [owedAfter_end]
  unfold bodyPost after₀ Dat.owesAt Pipeline.owesWithin
  rw [show (dats m ρ 0 c).owed t₀.succ = 0 from rfl]
  iintro ⟨#HS, ⟨%W, HO⟩, H⟩
  imod hl $$ [H] with ⟨Hs, Hb, Ht, Hf⟩
  · isplitr; · iexact HS
    iexact H
  ihave Hb := hst $$ Hb
  icases Hb with ⟨Hx, Hw, Ho⟩
  imodintro
  isplitl [Hs Ht Hf]
  · isplitl [Hs]; · iexact Hs
    isplitl [Ht] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_sound : bodyPre m ρ c ⊢ wp frame (wpE (defs₀ (F := F)) noVariants (c : Thread nD τ) none) Set.univ
    (cc0_body (F := F) (win0_0.stage 0) (hstage0_0 0) (win0_1.stage 0) (hstage0_1 0) (win0_2.stage 0) (hstage0_2 0)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c) := by
  rw [body_eq]
  simp only [wp_deviceId]
  have hr (κ : Dev nD × Cid → ℕ) (ιs : Key → ℕ) := run_all m ρ κ ιs noVariants c (fun _ => bodyPost m ρ c)
  have hk (κ : Dev nD × Cid → ℕ) (ιs : Key → ℕ) : iprop(shared m ρ κ ιs ∗ owing c 40 ∗ held m ρ c finish)
      ⊢ wp frame (wpE (defs₀ (F := F)) noVariants (c : Thread nD τ) none) Set.univ (.ret PUnit.unit) (fun _ => bodyPost m ρ c) := by
    rw [wp_ret]; exact post_close m ρ c κ ιs
  iintro H
  ihave H := (pre_open m ρ c) $$ H
  icases H with ⟨%κ, %ιs, #HS, HO, HT⟩
  iapply (hr κ ιs) $$ [HO HT]
  · isplitr; · iexact HS
    isplitl [HO] <;> iassumption
  iintro ⟨HO, HT⟩
  iapply (hk κ ιs)
  isplitr; · iexact HS
  isplitl [HO] <;> iassumption

/-- The library's body obligation on a device. -/
theorem body_obligation : BodyObligation (dats (F := F) m ρ 0 c) (defs₀ (F := F)) noVariants (0 : ℕ) Set.univ := fun t => by
  rw [fin_N t]
  rw [windows_split, windows_split]
  simp only [owns_all]
  show bodyPre m ρ c ⊢ wp frame (wpE (defs₀ (F := F)) noVariants c none) Set.univ
    (cc0_body (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  exact body_sound m ρ c

/-! ## The launch -/

theorem share_eq (w : Fin cfg0.W) : (dats m ρ 0 c).share w = fullShare := by unfold Dat.share; split <;> rfl

theorem given_intro :
    iprop(Pipeline.unscopedRestP Pipeline.Prefetch.none cfg0.spec c (fun b => m ((c : Thread nD τ).loc b)) ∗ levAts L lv
        ∗ Pipeline.launchCred (fun d => owedAfter d 0) c ∗ prngReg c (ρ c) ∗ G' m ρ c)
      ⊢ |={Set.univ}=> iprop(given m ρ c ∗ emp) := by
  iintro ⟨-, Hlev, Hcr, -, HG⟩
  ihave Hc := (dues_intro m ρ c) $$ Hcr
  imodintro
  unfold given
  isplitl
  · isplitl [HG]; · iexact HG
    isplitl [Hc] <;> iassumption
  · iempintro

theorem scratch_eq : (Pipeline.scopedRest (Ix := ℕ) (Name := ℕ) (U := UU) (Lvl := ℕ) (Val := Elt F) cfg0.spec c : sProp 𝕄) = iprop(commAny c true ∗ commAny c false) :=
  scopedRest0_eq c

theorem phi_enter :
    iprop(given m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scratch_eq]
  unfold before₀
  iintro ⟨Hs, -, Hr⟩
  isplitl [Hs] <;> iassumption

theorem phi_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scratch_eq]
  unfold after₀
  iintro ⟨Hs, Hr⟩
  ihave Hs := (sems_eq (F := F) c).2 $$ Hs
  icases Hs with ⟨Ho, Hu⟩
  isplitl [Hu]; · iexact Hu
  isplitl [Ho] <;> iassumption

theorem waits : (levAts L lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait_after c 0 (by decide) _ 0 (by decide)
    · show _ ⊢ MayWait (c : Thread nD τ) _ 0 0
      rw [MayWait_zero]; iintro -; iempintro

theorem L_of_ne (g : GSem nD τ sig) (h : g.1.2 ≠ .tc) : L g = ∅ := if_neg h

/-! ## The run -/

/-- What a window's array holds in the end. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with the counters at zero every fair run of the program ends, with the arrays as computed and every
counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ noVariants m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedAfter d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := given m ρ) (Y := fun c => unscopedSems0 c) (Z := fun _ => iprop(emp))
    (hX := given_intro m ρ) (hin := phi_enter m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays read are unchanged. -/
theorem final_x : finalA m ρ c (0 : Fin 3) = (s₀ m ρ).mem (win0_0.arr.view.loc (c : Thread nD τ)) := (dats (F := F) m ρ 0 c).arrAt_in (0 : Fin 3) rfl _
theorem final_w : finalA m ρ c (1 : Fin 3) = (s₀ m ρ).mem (win0_1.arr.view.loc (c : Thread nD τ)) := (dats (F := F) m ρ 0 c).arrAt_in (1 : Fin 3) rfl _

end Cert.Gather
-- ==== Proof.Frames.lean ====
/-
What a run leaves: the arguments as they were, every semaphore at zero.
-/
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run

@[expose] public section

set_option maxRecDepth 65536

noncomputable section

namespace Cert.Gather

open Idealize.ShloMosaic Idealize.ShloMosaic.TcCoe Idealize.SL.Sem

/-- The kernel run leaves its two arguments as they were. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r} (h : QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
    ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  ⟨(h c (0 : Fin 3)).trans (final_x m ρ c), (h c (1 : Fin 3)).trans (final_w m ρ c)⟩

/-- The kernel run leaves its two arguments as they were and every semaphore at zero, over any float operations. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨args_kept m ρ h.1, h.2⟩) (run_main (F := F) m ρ)

theorem frame_kernelIdeal : Cert.quiescent_KernelIdeal (hKernelIdeal := Cert.KernelIdeal.Gen.facts) := fun m ρ _ => run_frame (F := Ideal) m ρ

/-- The kernel as written and the kernel read at the ideal instance have the same body. -/
theorem body_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  obtain ⟨l, hl⟩ := l
  cases l with
  | succ n => omega
  | zero =>
    obtain ⟨t, s⟩ := a
    rfl

theorem defs_same : @Cert.Kernel.defs Bits _ Cert.Kernel.Gen.facts = @Cert.KernelIdeal.defs Bits _ Cert.KernelIdeal.Gen.facts :=
  congrArg (fun D => Pipeline.defs Cert.KernelIdeal.pcfgs D) body_same

theorem frame_kernel : Cert.quiescent_Kernel (hKernel := Cert.Kernel.Gen.facts) := fun m ρ _ => by
  rw [defs_same]
  exact run_frame (F := Bits) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_silu : Cert.quiescent_SiluIdeal (hSiluIdeal := Cert.SiluIdeal.Gen.facts) := fun m ρ _ =>
  (θ_run Cert.SiluIdeal.defs _ _).mono (fun r h => ⟨fun c => (h c).2, Idealize.ShloMosaic.sem_eq_zero_of_no_sems (by decide) r.2⟩)
    (Cert.SiluIdeal.Value.run (F := Ideal) m ρ)

end Cert.Gather
-- ==== Proof.Equal.lean ====
/-
Over the reals the devices' results are the blocks of the product's with the SiLU, everywhere.
-/
module

public import proofs.«01_k».proof.Proof.Value
public import proofs.«01_k».proof.Proof.Frames

@[expose] public section

set_option maxRecDepth 65536

noncomputable section

namespace Cert.Gather

open Cert.KernelIdeal Cert.KernelIdeal.Gen
open Idealize.ShloMosaic Idealize.ShloMosaic.TcCoe Idealize.ShloMosaic.ValueIdx Idealize.SL.Sem

/-! ## Whole arrays as the windows' blocks -/

section Arrays

variable {F : FTy → Type} [FloatOps F]
variable (m : (ℓ : Loc nD τ sig) → Buf (Elt F) ℓ) (ρ : Dev nD → PrngReg)
variable (c : Dev nD)

theorem xBlk_eq : xBlk m ρ c = m ((c : Thread nD τ).loc main_arg0) :=
  Memref.read_access_unit_zero (Elt F) main_arg0 (off := fun a => (win0_0.index (0 : Fin 1)) a * main_arg0.ty.shape.size a)
    (by funext a; fin_cases a <;> decide) (fun a => by fin_cases a <;> decide) _
theorem wBlk_eq : wBlk m ρ c = m ((c : Thread nD τ).loc main_arg1) :=
  Memref.read_access_unit_zero (Elt F) main_arg1 (off := fun a => (win0_1.index (0 : Fin 1)) a * main_arg1.ty.shape.size a)
    (by funext a; fin_cases a <;> decide) (fun a => by fin_cases a <;> decide) _

attribute [local irreducible] outAt in
/-- The result array ends with what the body left in its staging buffer. -/
theorem final_o : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (off := fun a => (win0_2.index (0 : Fin 1)) a * main_v1.ty.shape.size a)
    (by funext a; fin_cases a <;> decide) (fun a => by fin_cases a <;> decide) _).symm.trans h

end Arrays

/-! ## The product with the SiLU, entry by entry -/

section Reference

variable (X : FVec Ideal ⟨2, ![4096, 4096]⟩ .f32) (W : FVec Ideal ⟨2, ![4096, 2048]⟩ .f32)

/-- Its result as its run spells it. -/
def siluOut : FVec Ideal Cert.SiluIdeal.S4096x2048 .f32 :=
  Host.divf (Host.dotGeneral Cert.SiluIdeal.dot_S4096x4096_S4096x2048_S4096x2048_1_0_0_1_n_n none X W)
    (addf (broadcastInDim Cert.SiluIdeal.S4096x2048 ![] Cert.SiluIdeal.Gen.facts.bcast_S_S4096x2048 (constant (F := Ideal) Cert.SiluIdeal.S_ .f32 0x3F800000#32))
      (Host.exp (Host.negf (Host.dotGeneral Cert.SiluIdeal.dot_S4096x4096_S4096x2048_S4096x2048_1_0_0_1_n_n none X W))))

theorem one_word : (FloatOps.ofBits .f32 0x3F800000#32 : Ideal .f32) = (1 : EReal) := Ideal.ofBits_one_f32

theorem siluOut_apply (a : Fin 4096) (b : Fin 2048) : siluOut X W (ix2 a b) = silu (∑ k : Fin 4096, (X (ix2 a k) : EReal) * W (ix2 k b)) := by
  have hy : Host.dotGeneral Cert.SiluIdeal.dot_S4096x4096_S4096x2048_S4096x2048_1_0_0_1_n_n none X W (ix2 a b)
      = (∑ k : Fin 4096, (X (ix2 a k) : EReal) * W (ix2 k b)) := StackMember.dotGeneral_plain_apply (m := 4096) (n := 2048) (k := 4096) none X W a b
  have hs : siluOut X W (ix2 a b)
      = Ideal.div (Host.dotGeneral Cert.SiluIdeal.dot_S4096x4096_S4096x2048_S4096x2048_1_0_0_1_n_n none X W (ix2 a b))
        (FloatOps.ofBits (F := Ideal) .f32 0x3F800000#32 + Ideal.exp (-(Host.dotGeneral Cert.SiluIdeal.dot_S4096x4096_S4096x2048_S4096x2048_1_0_0_1_n_n none X W (ix2 a b)))) := rfl
  rw [hs, one_word, hy]
  rfl

end Reference

/-! ## Block by block -/

variable (m : (ℓ : Loc nD τ sig) → Buf (Elt Ideal) ℓ) (ρ : Dev nD → PrngReg)

theorem result_block (X : FVec Ideal ⟨2, ![4096, 4096]⟩ .f32) (W : FVec Ideal ⟨2, ![4096, 2048]⟩ .f32)
    (hx : ∀ c : Dev nD, m ((c : Thread nD τ).loc main_arg0) = Layout.block ⟨2, ![256, 4096]⟩ ⟨2, ![4096, 4096]⟩ 0 16 c X)
    (hw : ∀ c : Dev nD, m ((c : Thread nD τ).loc main_arg1) = Layout.block ⟨2, ![4096, 128]⟩ ⟨2, ![4096, 2048]⟩ 1 16 c W) (c : Dev nD) :
    result m ρ c = Layout.block ⟨2, ![4096, 128]⟩ ⟨2, ![4096, 2048]⟩ 1 16 c (siluOut X W) := by
  have hc : c.val < 16 := c.isLt
  have ex (o : Dev nD) (a : Fin 256) (k : Fin 4096) :
      xAt m ρ o a k = X (ix2 (⟨256 * o.val + a.val, by have : o.val < 16 := o.isLt; omega⟩ : Fin 4096) k) := by
    unfold xAt
    rw [xBlk_eq, hx o]
    refine congrArg X ?_
    funext b
    apply Fin.ext
    fin_cases b
    · show o.val * 256 + a.val = 256 * o.val + a.val; omega
    · rfl
  have ew (k : Fin 4096) (b : Fin 128) : wAt m ρ c k b = W (ix2 k (⟨128 * c.val + b.val, by omega⟩ : Fin 2048)) := by
    unfold wAt
    rw [wBlk_eq, hw c]
    refine congrArg W ?_
    funext e
    apply Fin.ext
    fin_cases e
    · rfl
    · show c.val * 128 + b.val = 128 * c.val + b.val; omega
  funext i
  obtain ⟨a, b, rfl⟩ : ∃ (a : Fin 4096) (b : Fin 128), i = ix2 a b := ⟨i 0, i 1, eq_ix2 i⟩
  have ea : (⟨256 * (rowDev a).val + (rowIn a).val, by have : (rowDev a).val < 16 := (rowDev a).isLt; omega⟩ : Fin 4096) = a :=
    Fin.ext (Nat.div_add_mod a.val 256)
  have er : (Layout.block ⟨2, ![4096, 128]⟩ ⟨2, ![4096, 2048]⟩ 1 16 c (siluOut X W) (by decide) (ix2 a b) : EReal)
      = siluOut X W (ix2 a (⟨128 * c.val + b.val, by omega⟩ : Fin 2048)) := by
    refine congrArg (siluOut X W) ?_
    funext e
    apply Fin.ext
    fin_cases e
    · rfl
    · show c.val * 128 + b.val = 128 * c.val + b.val; omega
  refine Eq.trans ?_ (er.trans (siluOut_apply X W a _)).symm
  show silu (∑ k : Fin 4096, xAt m ρ (rowDev a) (rowIn a) k * wAt m ρ c k b) = _
  refine congrArg silu (Finset.sum_congr rfl fun k _ => ?_)
  rw [ex, ew, ea]

theorem algebraic_silu : Cert.algebraic_KernelIdeal_SiluIdeal (hKernelIdeal := Cert.KernelIdeal.Gen.facts) (hSiluIdeal := Cert.SiluIdeal.Gen.facts) := by
  intro m ρ m' ρ' _ hagree
  refine ⟨siluOut (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1)), ?_, ?_⟩
  · refine (θ_run Cert.KernelIdeal.defs _ _).mono (fun _ h c => ⟨?_, args_kept m ρ h.1 c⟩) (run_main (F := Ideal) m ρ)
    refine (h.1 c (2 : Fin 3)).trans ((final_o m ρ c).trans ((out_result m ρ c).trans ?_))
    exact result_block m ρ _ _ (fun c => (hagree c).1) (fun c => (hagree c).2) c
  · exact (θ_run Cert.SiluIdeal.defs _ _).mono (fun _ h => h 0) (Cert.SiluIdeal.Value.run (F := Ideal) m' ρ')

end Cert.Gather
-- ==== Proof.Clip.lean ====
/-
Where the product lies in [-60, 60], the reference's clip is the identity, and the devices' results are the
blocks of the reference's.
-/
module

public import proofs.«01_k».proof.Proof.Equal
public import proofs.«01_k».proof.Proof.Gen.On_unclipped

@[expose] public section

set_option maxRecDepth 65536

noncomputable section

namespace Cert.Gather

open Idealize.ShloMosaic Idealize.ShloMosaic.TcCoe Idealize.ShloMosaic.ValueIdx Idealize.SL.Sem

section Reference

variable (X : FVec Ideal ⟨2, ![4096, 4096]⟩ .f32) (W : FVec Ideal ⟨2, ![4096, 2048]⟩ .f32)

/-- The whole arrays' product. -/
def prodOut : FVec Ideal Cert.ReferenceIdeal.S4096x2048 .f32 :=
  Host.dotGeneral Cert.ReferenceIdeal.dot_S4096x4096_S4096x2048_S4096x2048_1_0_0_1_n_n none X W

/-- The reference's result as its run spells it. -/
def clipOut : FVec Ideal Cert.ReferenceIdeal.S4096x2048 .f32 :=
  Host.divf (prodOut X W)
    (addf (broadcastInDim Cert.ReferenceIdeal.S4096x2048 ![] Cert.ReferenceIdeal.Gen.facts.bcast_S_S4096x2048 (constant (F := Ideal) Cert.ReferenceIdeal.S_ .f32 0x3F800000#32))
      (Host.exp (Host.negf
        (minimumf (broadcastInDim Cert.ReferenceIdeal.S4096x2048 ![] Cert.ReferenceIdeal.Gen.facts.bcast_S_S4096x2048 (id (constant (F := Ideal) Cert.ReferenceIdeal.S_ .f32 0x42700000#32)))
          (maximumf (broadcastInDim Cert.ReferenceIdeal.S4096x2048 ![] Cert.ReferenceIdeal.Gen.facts.bcast_S_S4096x2048 (id (constant (F := Ideal) Cert.ReferenceIdeal.S_ .f32 0xC2700000#32)))
            (prodOut X W))))))

/-- The upper bound of the clip. -/
abbrev hi : EReal := (FloatOps.ofBits .f32 0x42700000#32 : Ideal .f32)
/-- The lower bound of the clip. -/
abbrev lo : EReal := (FloatOps.ofBits .f32 0xC2700000#32 : Ideal .f32)

theorem lo_eq : lo = -hi := by
  show Ideal.ofBits .f32 0xC2700000#32 = -(Ideal.ofBits .f32 0x42700000#32)
  simp [Ideal.ofBits, Ideal.ieee]

theorem prodOut_apply (a : Fin 4096) (b : Fin 2048) :
    prodOut X W (ix2 a b) = (∑ k : Fin 4096, (X (ix2 a k) : EReal) * W (ix2 k b)) :=
  StackMember.dotGeneral_plain_apply (m := 4096) (n := 2048) (k := 4096) none X W a b

theorem clipOut_apply (i : Cert.ReferenceIdeal.S4096x2048.Idx) :
    clipOut X W i = Ideal.div (prodOut X W i) (FloatOps.ofBits (F := Ideal) .f32 0x3F800000#32 + Ideal.exp (-(min hi (max lo (prodOut X W i))))) := rfl

theorem mask_apply (i : Cert.ReferenceIdeal.S4096x2048.Idx) :
    Cert.On_unclipped.fn (F := Ideal) X W i = Ideal.cmp .ole (max (prodOut X W i : EReal) (-(prodOut X W i : EReal))) hi := rfl

/-- The clip of a value between its bounds. -/
theorem clip_id (y : EReal) (h : Ideal.cmp .ole (max y (-y)) hi = 1#1) : min hi (max lo y) = y := by
  have hle : max y (-y) ≤ hi := by
    have hb : ∀ b : Bool, BitVec.ofBool b = 1#1 → b = true := by decide
    exact of_decide_eq_true (hb _ h)
  have h1 : y ≤ hi := (le_max_left _ _).trans hle
  have h2 : lo ≤ y := lo_eq ▸ EReal.neg_le.mp ((le_max_right _ _).trans hle)
  rw [max_eq_right h2, min_eq_right h1]

theorem clipOut_eq (i : Cert.ReferenceIdeal.S4096x2048.Idx)
    (h : Cert.On_unclipped.fn (F := Ideal) X W i = 1#1) : clipOut X W i = siluOut X W i := by
  rw [mask_apply] at h
  rw [clipOut_apply, clip_id _ h]
  rfl

end Reference

theorem algebraic_clip : Cert.algebraic_KernelIdeal_ReferenceIdeal_on_unclipped (hKernelIdeal := Cert.KernelIdeal.Gen.facts)
    (hReferenceIdeal := Cert.ReferenceIdeal.Gen.facts) (hOn_unclipped := Cert.On_unclipped.Gen.facts) := by
  intro m ρ m' ρ' _ hagree
  refine ⟨siluOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨fun i _ => congrFun ?_ i, args_kept m ρ h.1 c⟩) (run_main (F := Ideal) m ρ)
    refine (h.1 c (2 : Fin 3)).trans ((final_o m ρ c).trans ((out_result m ρ c).trans ?_))
    exact result_block m ρ _ _ (fun c => (hagree c).1) (fun c => (hagree c).2) c
  · refine (θ_run Cert.ReferenceIdeal.defs _ _).mono (fun _ h => ⟨fun i hi => ?_, (h 0).2⟩) (Cert.ReferenceIdeal.Value.run (F := Ideal) m' ρ')
    exact (congrFun (h 0).1 i).trans (clipOut_eq _ _ i hi)

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_unclipped
public import proofs.«01_k».proof.Proof.Equal
public import proofs.«01_k».proof.Proof.Clip
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.SiluIdeal.Gen.facts, Cert.On_unclipped.Gen.facts, Cert.Gather.frame_kernel, Cert.Gather.frame_kernelIdeal, Cert.Gather.frame_reference,
  Cert.Gather.frame_silu, trivial, Cert.Gather.algebraic_clip, Cert.Gather.algebraic_silu⟩

end Cert.Proof

end
